-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_of_eight [hPre_rows_of_eight : Cert.Pre_rows_of_eight.Facts] (m : (ℓ : Loc Cert.KernelIdeal.nD Cert.KernelIdeal.τ Cert.KernelIdeal.sig) → Buf (Elt Ideal) ℓ) : Prop :=
  ∀ c : Dev Cert.KernelIdeal.nD,
    (Cert.Pre_rows_of_eight.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_rows_of_eight.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_rows_of_eight.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_rows_of_eight.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_rows_of_eight.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_of_eight [hPre_rows_of_eight : Cert.Pre_rows_of_eight.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_of_eight.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_rows_of_eight.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_rows_of_eight.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_rows_of_eight.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_rows_of_eight.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_masked_cosines [hPre_masked_cosines : Cert.Pre_masked_cosines.Facts] (m : (ℓ : Loc Cert.LossIdeal.nD Cert.LossIdeal.τ Cert.LossIdeal.sig) → Buf (Elt Ideal) ℓ) : Prop :=
  ∀ c : Dev Cert.LossIdeal.nD,
    (Cert.Pre_masked_cosines.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_masked_cosines.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_masked_cosines.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_rows_of_eight [hKernelIdeal : Cert.KernelIdeal.Facts] [hPre_rows_of_eight : Cert.Pre_rows_of_eight.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_of_eight m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_rows_of_eight [hReferenceIdeal : Cert.ReferenceIdeal.Facts] [hPre_rows_of_eight : Cert.Pre_rows_of_eight.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_of_eight m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_masked_cosines [hLossIdeal : Cert.LossIdeal.Facts] [hPre_masked_cosines : Cert.Pre_masked_cosines.Facts] : Prop :=
  ∀ (m : (ℓ : Loc Cert.LossIdeal.nD Cert.LossIdeal.τ Cert.LossIdeal.sig) → Buf (Elt Ideal) ℓ) (g : Dev Cert.LossIdeal.nD → PrngReg), Pre_LossIdeal_masked_cosines m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def preserves_Kernel_KernelIdeal : Prop :=
  True

def algebraic_KernelIdeal_ReferenceIdeal_pre_rows_of_eight [hKernelIdeal : Cert.KernelIdeal.Facts] [hReferenceIdeal : Cert.ReferenceIdeal.Facts] [hPre_rows_of_eight : Cert.Pre_rows_of_eight.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_of_eight m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Loss_LossIdeal : Prop :=
  True

def holds_LossIdeal_near_loss_pre_masked_cosines [hLossIdeal : Cert.LossIdeal.Facts] [hPre_masked_cosines : Cert.Pre_masked_cosines.Facts] [hPost_near_loss : Cert.Post_near_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_masked_cosines m →
    θ_run (Cert.LossIdeal.defs (F := Ideal)) (onTc (τ := Cert.LossIdeal.τ) (Cert.LossIdeal.main (F := Ideal))) ⟨m, fun _ => 0, g⟩ (fun r => ∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ (Cert.Post_near_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (r.2.mem ((c.tc : Thread Cert.LossIdeal.nD Cert.LossIdeal.τ).loc Cert.LossIdeal.main_v3))) = (fun _ => 1#1))

def Claim : Prop :=
  ∃ (hKernel : Cert.Kernel.Facts) (hKernelIdeal : Cert.KernelIdeal.Facts) (hReferenceIdeal : Cert.ReferenceIdeal.Facts) (hLoss : Cert.Loss.Facts) (hLossIdeal : Cert.LossIdeal.Facts) (hPre_rows_of_eight : Cert.Pre_rows_of_eight.Facts) (hPre_masked_cosines : Cert.Pre_masked_cosines.Facts) (hPost_near_loss : Cert.Post_near_loss.Facts),
    quiescent_Kernel (hKernel := hKernel)
    ∧ quiescent_KernelIdeal (hKernelIdeal := hKernelIdeal)
    ∧ quiescent_KernelIdeal_pre_rows_of_eight (hKernelIdeal := hKernelIdeal) (hPre_rows_of_eight := hPre_rows_of_eight)
    ∧ quiescent_ReferenceIdeal (hReferenceIdeal := hReferenceIdeal)
    ∧ quiescent_ReferenceIdeal_pre_rows_of_eight (hReferenceIdeal := hReferenceIdeal) (hPre_rows_of_eight := hPre_rows_of_eight)
    ∧ quiescent_Loss (hLoss := hLoss)
    ∧ quiescent_LossIdeal (hLossIdeal := hLossIdeal)
    ∧ quiescent_LossIdeal_pre_masked_cosines (hLossIdeal := hLossIdeal) (hPre_masked_cosines := hPre_masked_cosines)
    ∧ preserves_Kernel_KernelIdeal
    ∧ algebraic_KernelIdeal_ReferenceIdeal_pre_rows_of_eight (hKernelIdeal := hKernelIdeal) (hReferenceIdeal := hReferenceIdeal) (hPre_rows_of_eight := hPre_rows_of_eight)
    ∧ preserves_Loss_LossIdeal
    ∧ holds_LossIdeal_near_loss_pre_masked_cosines (hLossIdeal := hLossIdeal) (hPre_masked_cosines := hPre_masked_cosines) (hPost_near_loss := hPost_near_loss)
-- ==== Post_near_loss.lean ====
abbrev S4096x4096 : Shape := ⟨2, ![4096, 4096]⟩
abbrev S4096x128 : Shape := ⟨2, ![4096, 128]⟩
abbrev S8x128 : Shape := ⟨2, ![8, 128]⟩
abbrev S4096x1 : Shape := ⟨2, ![4096, 1]⟩
abbrev S4096 : Shape := ⟨1, ![4096]⟩
abbrev S_ : Shape := ⟨0, ![]⟩
abbrev S4095 : Shape := ⟨1, ![4095]⟩
abbrev S1x4095 : Shape := ⟨2, ![1, 4095]⟩
abbrev S4096x4095 : Shape := ⟨2, ![4096, 4095]⟩

class Facts : Prop where
  slices_S4096x128_S4096x1_0_0 : S4096x128.Slices ![0, 0] S4096x1
  shapeCasts_S4096x1_S4096 : S4096x1.ShapeCasts S4096
  reducesTo_S4096_S_d0 : S4096.ReducesTo [0] S_
  h_S_ : 0 < S_.numel
  bitsLt_bf16_f32 : FTy.bits .bf16 < FTy.bits .f32
  bcast_S4095_S1x4095_1 : S4095.BroadcastsInDim S1x4095 (![1] : Fin 1 → Fin S1x4095.rank)
  bcast_S_S1x4095 : S_.BroadcastsInDim S1x4095 (![] : Fin 0 → Fin S1x4095.rank)
  slices_S4096x4096_S4096x4095_0_0 : S4096x4096.Slices ![0, 0] S4096x4095
  bcast_S1x4095_S4096x4095_0_1 : S1x4095.BroadcastsInDim S4096x4095 (![0, 1] : Fin 2 → Fin S4096x4095.rank)
  bcast_S_S4096x4095 : S_.BroadcastsInDim S4096x4095 (![] : Fin 0 → Fin S4096x4095.rank)
  concatenates_S4096x1_S4096x4095_S4096x4096_d1 : Shape.Concatenates [S4096x1, S4096x4095] S4096x4096 1
  bcast_S_S4096x4096 : S_.BroadcastsInDim S4096x4096 (![] : Fin 0 → Fin S4096x4096.rank)
  reducesTo_S4096x4096_S4096_d1 : S4096x4096.ReducesTo [1] S4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  slices_S4096x4096_S4096x1_0_0 : S4096x4096.Slices ![0, 0] S4096x1
  bcast_S_S4096 : S_.BroadcastsInDim S4096 (![] : Fin 0 → Fin S4096.rank)
  bcast_S_S8x128 : S_.BroadcastsInDim S8x128 (![] : Fin 0 → Fin S8x128.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S4096x4096 .f32) : FVec F S4096x4096 .f32 :=
  let v0 : FVec F S4096x4096 .f32 := (fun x => Host.sort S4096x4096 1 comparator_f32_d1 x) arg0
  v0

def fn_where {F : FTy → Type} [FloatOps F] (arg0 : IVec S1x4095 1) (arg1 : FVec F S4096x4095 .f32) (arg2 : FVec F S_ .f32) : FVec F S4096x4095 .f32 :=
  let v0 : FVec F S_ .f32 := id arg2
  let v1 : IVec S4096x4095 1 := broadcastInDim S4096x4095 ![0, 1] bcast_S1x4095_S4096x4095_0_1 arg0
  let v2 : FVec F S4096x4095 .f32 := broadcastInDim S4096x4095 ![] bcast_S_S4096x4095 v0
  let v3 : FVec F S4096x4095 .f32 := select v1 arg1 v2
  v3

def fn_where_0 {F : FTy → Type} [FloatOps F] (arg0 : IVec S4096 1) (arg1 : FVec F S_ .f32) (arg2 : FVec F S_ .f32) : FVec F S4096 .f32 :=
  let v0 : FVec F S4096 .f32 := broadcastInDim S4096 ![] bcast_S_S4096 arg1
  let v1 : FVec F S4096 .f32 := broadcastInDim S4096 ![] bcast_S_S4096 arg2
  let v2 : FVec F S4096 .f32 := select arg0 v0 v1
  v2

def fn_part2 {F : FTy → Type} [FloatOps F] (main_arg3 : FVec F S8x128 .f32) (main_v34 : FVec F S_ .f32) (main_v36 : FVec F S4096 .f32) (main_v37 : FVec F S_ .f32) : IVec S8x128 1 :=
  let main_v38 : FVec F S4096 .f32 := broadcastInDim S4096 ![] bcast_S_S4096 main_v37
  let main_v39 : IVec S4096 1 := cmpf .oge main_v36 main_v38
  let main_cst_8 : FVec F S_ .f32 := constant S_ .f32 0x3CF5C28F#32
  let main_cst_9 : FVec F S_ .f32 := constant S_ .f32 0x3E23D70A#32
  let main_v40 : FVec F S4096 .f32 := fn_where_0 (F := F) main_v39 main_cst_8 main_cst_9
  let main_v41 : FVec F S4096 .f32 := id main_v40
  let main_cst_10 : FVec F S_ .f32 := constant S_ .f32 0x00000000#32
  let main_v42 : FVec F S_ .f32 := (fun x v => Host.reduceAdd x v reducesTo_S4096_S_d0 h_S_) main_v41 main_cst_10
  let main_cst_11 : FVec F S_ .f32 := constant S_ .f32 0x45800000#32
  let main_v43 : FVec F S_ .f32 := Host.divf main_v42 main_cst_11
  let main_v44 : FVec F S8x128 .f32 := broadcastInDim S8x128 ![] bcast_S_S8x128 main_v34
  let main_v45 : FVec F S8x128 .f32 := subf main_arg3 main_v44
  let main_v46 : FVec F S8x128 .f32 := Host.absf main_v45
  let main_v47 : FVec F S8x128 .f32 := broadcastInDim S8x128 ![] bcast_S_S8x128 main_v43
  let main_v48 : IVec S8x128 1 := cmpf .ole main_v46 main_v47
  main_v48

def fn_part1 {F : FTy → Type} [FloatOps F] (main_arg1 : FVec F S4096x128 .f32) (main_arg3 : FVec F S8x128 .f32) (main_v7 : IVec S_ 32) (main_v17 : FVec F S4096x4095 .f32) (main_v18 : FVec F S4096x1 .f32) : IVec S8x128 1 :=
  let main_v19 : FVec F S4096x4096 .f32 := (fun a b => concatenate S4096x4096 1 [⟨S4096x1, a⟩, ⟨S4096x4095, b⟩] concatenates_S4096x1_S4096x4095_S4096x4096_d1) main_v18 main_v17
  let main_cst_3 : FVec F S_ .f32 := constant S_ .f32 0x3D8F5C29#32
  let main_v20 : FVec F S4096x4096 .f32 := broadcastInDim S4096x4096 ![] bcast_S_S4096x4096 main_cst_3
  let main_v21 : FVec F S4096x4096 .f32 := Host.divf main_v19 main_v20
  let main_cst_4 : FVec F S_ .f32 := constant S_ .f32 0xFF800000#32
  let main_v22 : FVec F S4096 .f32 := (fun x v => Host.reduce FloatOps.maximumf x v reducesTo_S4096x4096_S4096_d1 h_S_) main_v21 main_cst_4
  let main_v23 : FVec F S4096x1 .f32 := broadcastInDim S4096x1 ![0] bcast_S4096_S4096x1_0 main_v22
  let main_v24 : FVec F S4096x4096 .f32 := broadcastInDim S4096x4096 ![0, 1] bcast_S4096x1_S4096x4096_0_1 main_v23
  let main_v25 : FVec F S4096x4096 .f32 := subf main_v21 main_v24
  let main_v26 : FVec F S4096x4096 .f32 := Host.exp main_v25
  let main_cst_5 : FVec F S_ .f32 := constant S_ .f32 0x00000000#32
  let main_v27 : FVec F S4096 .f32 := (fun x v => Host.reduceAdd x v reducesTo_S4096x4096_S4096_d1 h_S_) main_v26 main_cst_5
  let main_v28 : FVec F S4096 .f32 := Host.log main_v27
  let main_v29 : FVec F S4096 .f32 := addf main_v28 main_v22
  let main_v30 : FVec F S4096x1 .f32 := (extractStridedSlice S4096x1 ![0, 0] · slices_S4096x4096_S4096x1_0_0) main_v21
  let main_v31 : FVec F S4096 .f32 := shapeCast S4096 main_v30 shapeCasts_S4096x1_S4096
  let main_v32 : FVec F S4096 .f32 := subf main_v29 main_v31
  let main_cst_6 : FVec F S_ .f32 := constant S_ .f32 0x00000000#32
  let main_v33 : FVec F S_ .f32 := (fun x v => Host.reduceAdd x v reducesTo_S4096_S_d0 h_S_) main_v32 main_cst_6
  let main_cst_7 : FVec F S_ .f32 := constant S_ .f32 0x45800000#32
  let main_v34 : FVec F S_ .f32 := Host.divf main_v33 main_cst_7
  let main_v35 : FVec F S4096x1 .f32 := (extractStridedSlice S4096x1 ![0, 0] · slices_S4096x128_S4096x1_0_0) main_arg1
  let main_v36 : FVec F S4096 .f32 := shapeCast S4096 main_v35 shapeCasts_S4096x1_S4096
  let main_v37 : FVec F S_ .f32 := sitofp .f32 main_v7
  fn_part2 (F := F) main_arg3 main_v34 main_v36 main_v37

def fn {F : FTy → Type} [FloatOps F] (main_arg0 : FVec F S4096x4096 .bf16) (main_arg1 : FVec F S4096x128 .f32) (main_arg2 : FVec F S4096x128 .f32) (main_arg3 : FVec F S8x128 .f32) : IVec S8x128 1 :=
  let main_v0 : FVec F S4096x1 .f32 := (extractStridedSlice S4096x1 ![0, 0] · slices_S4096x128_S4096x1_0_0) main_arg1
  let main_v1 : FVec F S4096 .f32 := shapeCast S4096 main_v0 shapeCasts_S4096x1_S4096
  let main_cst : FVec F S_ .f32 := constant S_ .f32 0x00000000#32
  let main_v2 : FVec F S_ .f32 := (fun x v => Host.reduceAdd x v reducesTo_S4096_S_d0 h_S_) main_v1 main_cst
  let main_cst_0 : FVec F S_ .f32 := constant S_ .f32 0x45800000#32
  let main_v3 : FVec F S_ .f32 := Host.divf main_v2 main_cst_0
  let main_cst_1 : FVec F S_ .f32 := constant S_ .f32 0x3F000000#32
  let main_v4 : FVec F S_ .f32 := mulf main_cst_1 main_v3
  let main_v5 : FVec F S_ .f32 := Host.floor main_v4
  let main_v6 : IVec S_ 32 := fptosi 32 main_v5
  let main_c : IVec S_ 32 := constantI S_ 32 1#32
  let main_v7 : IVec S_ 32 := maxsi main_c main_v6
  let main_v8 : FVec F S4096x4096 .f32 := (extf .f32 · bitsLt_bf16_f32) main_arg0
  let main_v9 : FVec F S4096x4096 .f32 := Host.negf main_v8
  let main_v10 : FVec F S4096x4096 .f32 := fn_sort (F := F) main_v9
  let main_v11 : FVec F S4096x4096 .f32 := Host.negf main_v10
  let main_v12 : IVec S4095 32 := iotaInDim S4095 32 0
  let main_v13 : IVec S1x4095 32 := broadcastInDim S1x4095 ![1] bcast_S4095_S1x4095_1 main_v12
  let main_v14 : IVec S1x4095 32 := broadcastInDim S1x4095 ![] bcast_S_S1x4095 main_v7
  let main_v15 : IVec S1x4095 1 := cmpi .slt main_v13 main_v14
  let main_v16 : FVec F S4096x4095 .f32 := (extractStridedSlice S4096x4095 ![0, 0] · slices_S4096x4096_S4096x4095_0_0) main_v11
  let main_cst_2 : FVec F S_ .f32 := constant S_ .f32 0xC1200000#32
  let main_v17 : FVec F S4096x4095 .f32 := fn_where (F := F) main_v15 main_v16 main_cst_2
  let main_v18 : FVec F S4096x1 .f32 := (extractStridedSlice S4096x1 ![0, 0] · slices_S4096x128_S4096x1_0_0) main_arg2
  fn_part1 (F := F) main_arg1 main_arg3 main_v7 main_v17 main_v18
-- ==== Pre_masked_cosines.lean ====
abbrev S4096x4096 : Shape := ⟨2, ![4096, 4096]⟩
abbrev S4096x128 : Shape := ⟨2, ![4096, 128]⟩
abbrev S_ : Shape := ⟨0, ![]⟩
abbrev S4096 : Shape := ⟨1, ![4096]⟩
abbrev S4096x1 : Shape := ⟨2, ![4096, 1]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  slices_S4096x128_S4096x1_0_0 : S4096x128.Slices ![0, 0] S4096x1
  bcast_S_S4096x1 : S_.BroadcastsInDim S4096x1 (![] : Fin 0 → Fin S4096x1.rank)

variable [Facts]

def fn_where {F : FTy → Type} [FloatOps F] (arg0 : IVec S4096x4096 1) (arg1 : FVec F S_ .f32) (arg2 : FVec F S_ .f32) : FVec F S4096x4096 .f32 :=
  let v0 : FVec F S4096x4096 .f32 := broadcastInDim S4096x4096 ![] bcast_S_S4096x4096 arg1
  let v1 : FVec F S4096x4096 .f32 := broadcastInDim S4096x4096 ![] bcast_S_S4096x4096 arg2
  let v2 : FVec F S4096x4096 .f32 := select arg0 v0 v1
  v2

def fn_part1 {F : FTy → Type} [FloatOps F] (main_v12 : IVec S4096x4096 1) (main_v14 : IVec S4096x1 1) (main_v16 : FVec F S4096x1 .f32) (main_cst_5 : FVec F S_ .f32) : IVec S4096x4096 1 × IVec S4096x1 1 × IVec S4096x1 1 :=
  let main_v17 : FVec F S4096x1 .f32 := broadcastInDim S4096x1 ![] bcast_S_S4096x1 main_cst_5
  let main_v18 : IVec S4096x1 1 := cmpf .ole main_v16 main_v17
  (main_v12, main_v14, main_v18)

def fn {F : FTy → Type} [FloatOps F] (main_arg0 : FVec F S4096x4096 .bf16) (main_arg1 : FVec F S4096x128 .f32) (main_arg2 : FVec F S4096x128 .f32) : IVec S4096x4096 1 × IVec S4096x1 1 × IVec S4096x1 1 :=
  let main_v0 : FVec F S4096x4096 .f32 := (extf .f32 · bitsLt_bf16_f32) main_arg0
  let main_cst : FVec F S_ .f32 := constant S_ .f32 0xC1200000#32
  let main_v1 : FVec F S4096x4096 .f32 := broadcastInDim S4096x4096 ![] bcast_S_S4096x4096 main_cst
  let main_v2 : IVec S4096x4096 1 := cmpf .ogt main_v0 main_v1
  let main_cst_0 : FVec F S_ .f32 := constant S_ .f32 0x3F800000#32
  let main_cst_1 : FVec F S_ .f32 := constant S_ .f32 0x00000000#32
  let main_v3 : FVec F S4096x4096 .f32 := fn_where (F := F) main_v2 main_cst_0 main_cst_1
  let main_v4 : FVec F S4096x4096 .f32 := id main_v3
  let main_cst_2 : FVec F S_ .f32 := constant S_ .f32 0x00000000#32
  let main_v5 : FVec F S4096 .f32 := (fun x v => Host.reduceAdd x v reducesTo_S4096x4096_S4096_d1 h_S_) main_v4 main_cst_2
  let main_v6 : FVec F S4096x1 .f32 := broadcastInDim S4096x1 ![0] bcast_S4096_S4096x1_0 main_v5
  let main_v7 : FVec F S4096x4096 .f32 := Host.absf main_v0
  let main_cst_3 : FVec F S_ .f32 := constant S_ .f32 0x3F800000#32
  let main_v8 : FVec F S4096x4096 .f32 := broadcastInDim S4096x4096 ![] bcast_S_S4096x4096 main_cst_3
  let main_v9 : IVec S4096x4096 1 := cmpf .ole main_v7 main_v8
  let main_cst_4 : FVec F S_ .f32 := constant S_ .f32 0xC1200000#32
  let main_v10 : FVec F S4096x4096 .f32 := broadcastInDim S4096x4096 ![] bcast_S_S4096x4096 main_cst_4
  let main_v11 : IVec S4096x4096 1 := cmpf .oeq main_v0 main_v10
  let main_v12 : IVec S4096x4096 1 := ori main_v9 main_v11
  let main_v13 : FVec F S4096x1 .f32 := (extractStridedSlice S4096x1 ![0, 0] · slices_S4096x128_S4096x1_0_0) main_arg1
  let main_v14 : IVec S4096x1 1 := cmpf .oeq main_v13 main_v6
  let main_v15 : FVec F S4096x1 .f32 := (extractStridedSlice S4096x1 ![0, 0] · slices_S4096x128_S4096x1_0_0) main_arg2
  let main_v16 : FVec F S4096x1 .f32 := Host.absf main_v15
  let main_cst_5 : FVec F S_ .f32 := constant S_ .f32 0x3F800000#32
  fn_part1 (F := F) main_v12 main_v14 main_v16 main_cst_5
-- ==== Pre_rows_of_eight.lean ====
abbrev S32768x768 : Shape := ⟨2, ![32768, 768]⟩
abbrev S16384 : Shape := ⟨1, ![16384]⟩
abbrev S768x1 : Shape := ⟨2, ![768, 1]⟩
abbrev S_ : Shape := ⟨0, ![]⟩
abbrev S768x768 : Shape := ⟨2, ![768, 768]⟩
abbrev S768 : Shape := ⟨1, ![768]⟩

class Facts : Prop where
  bcast_S_S16384 : S_.BroadcastsInDim S16384 (![] : Fin 0 → Fin S16384.rank)
  bcast_S_S32768x768 : S_.BroadcastsInDim S32768x768 (![] : Fin 0 → Fin S32768x768.rank)
  bcast_S_S768x1 : S_.BroadcastsInDim S768x1 (![] : Fin 0 → Fin S768x1.rank)
  bcast_S_S768 : S_.BroadcastsInDim S768 (![] : Fin 0 → Fin S768.rank)

variable [Facts]

def fn {F : FTy → Type} [FloatOps F] (main_arg0 : FVec F S32768x768 .f32) (main_arg1 : IVec S16384 32) (main_arg2 : IVec S16384 32) (main_arg3 : FVec F S768x1 .f32) (main_arg4 : FVec F S_ .f32) (main_arg5 : FVec F S768x768 .f32) (main_arg6 : FVec F S768 .f32) : IVec S16384 1 × IVec S16384 1 × IVec S32768x768 1 × IVec S768x1 1 × IVec S768 1 :=
  let main_v0 : IVec S16384 32 := iotaInDim S16384 32 0
  let main_c : IVec S_ 32 := constantI S_ 32 3#32
  let main_v1 : IVec S16384 32 := broadcastInDim S16384 ![] bcast_S_S16384 main_c
  let main_v2 : IVec S16384 32 := Host.shrsi main_v0 main_v1
  let main_v3 : IVec S16384 1 := cmpi .eq main_arg1 main_v2
  let main_v4 : IVec S16384 1 := cmpi .eq main_arg2 main_v2
  let main_v5 : FVec F S32768x768 .f32 := Host.absf main_arg0
  let main_cst : FVec F S_ .f32 := constant S_ .f32 0x7F800000#32
  let main_v6 : FVec F S32768x768 .f32 := broadcastInDim S32768x768 ![] bcast_S_S32768x768 main_cst
  let main_v7 : IVec S32768x768 1 := cmpf .olt main_v5 main_v6
  let main_v8 : FVec F S768x1 .f32 := Host.absf main_arg3
  let main_cst_0 : FVec F S_ .f32 := constant S_ .f32 0x7F800000#32
  let main_v9 : FVec F S768x1 .f32 := broadcastInDim S768x1 ![] bcast_S_S768x1 main_cst_0
  let main_v10 : IVec S768x1 1 := cmpf .olt main_v8 main_v9
  let main_cst_1 : FVec F S_ .f32 := constant S_ .f32 0x00000000#32
  let main_v11 : FVec F S768 .f32 := broadcastInDim S768 ![] bcast_S_S768 main_cst_1
  let main_v12 : IVec S768 1 := cmpf .oeq main_arg6 main_v11
  (main_v3, main_v4, main_v7, main_v10, main_v12)
-- ==== Kernel.lean ====
abbrev S32768x768 : Shape := ⟨2, ![32768, 768]⟩
abbrev S16384 : Shape := ⟨1, ![16384]⟩
abbrev S768x1 : Shape := ⟨2, ![768, 1]⟩
abbrev S_ : Shape := ⟨0, ![]⟩
abbrev S768x768 : Shape := ⟨2, ![768, 768]⟩
abbrev S768 : Shape := ⟨1, ![768]⟩
abbrev S4096x8x768 : Shape := ⟨3, ![4096, 8, 768]⟩
abbrev S1x768 : Shape := ⟨2, ![1, 768]⟩
abbrev S1x1 : Shape := ⟨2, ![1, 1]⟩
abbrev S4096x4096 : Shape := ⟨2, ![4096, 4096]⟩
abbrev S4096x128 : Shape := ⟨2, ![4096, 128]⟩
abbrev S256x8x768 : Shape := ⟨3, ![256, 8, 768]⟩
abbrev S256x4096 : Shape := ⟨2, ![256, 4096]⟩
abbrev S256x128 : Shape := ⟨2, ![256, 128]⟩
abbrev S4096x768 : Shape := ⟨2, ![4096, 768]⟩
abbrev S768x4096 : Shape := ⟨2, ![768, 4096]⟩
abbrev S1x1x768 : Shape := ⟨3, ![1, 1, 768]⟩
abbrev S256x8 : Shape := ⟨2, ![256, 8]⟩
abbrev S256 : Shape := ⟨1, ![256]⟩
abbrev S256x1 : Shape := ⟨2, ![256, 1]⟩
abbrev S8x2048 : Shape := ⟨2, ![8, 2048]⟩
abbrev S256x2048 : Shape := ⟨2, ![256, 2048]⟩
abbrev S2048x768 : Shape := ⟨2, ![2048, 768]⟩
abbrev S256x768 : Shape := ⟨2, ![256, 768]⟩
abbrev S256x256 : Shape := ⟨2, ![256, 256]⟩
abbrev S768x256 : Shape := ⟨2, ![768, 256]⟩

abbrev nBuf : Space → Nat
  | .hbm => 16
  | .vmem => 13
  | .smem => 1
  | _ => 0

abbrev bufTy : (tb : Table) → Fin (tcTables nBuf tb) → BufTy
  | .hbm, ⟨0, _⟩ => ⟨S32768x768, .f32⟩
  | .hbm, ⟨1, _⟩ => ⟨S16384, .i32⟩
  | .hbm, ⟨2, _⟩ => ⟨S16384, .i32⟩
  | .hbm, ⟨3, _⟩ => ⟨S768x1, .f32⟩
  | .hbm, ⟨4, _⟩ => ⟨S_, .f32⟩
  | .hbm, ⟨5, _⟩ => ⟨S768x768, .f32⟩
  | .hbm, ⟨6, _⟩ => ⟨S768, .f32⟩
  | .hbm, ⟨7, _⟩ => ⟨S4096x8x768, .f32⟩
  | .hbm, ⟨8, _⟩ => ⟨S1x768, .f32⟩
  | .hbm, ⟨9, _⟩ => ⟨S1x1, .f32⟩
  | .hbm, ⟨10, _⟩ => ⟨S768x768, .f32⟩
  | .hbm, ⟨11, _⟩ => ⟨S768x768, .bf16⟩
  | .hbm, ⟨12, _⟩ => ⟨S1x768, .f32⟩
  | .hbm, ⟨13, _⟩ => ⟨S4096x4096, .bf16⟩
  | .hbm, ⟨14, _⟩ => ⟨S4096x128, .f32⟩
  | .hbm, ⟨15, _⟩ => ⟨S4096x128, .f32⟩
  | .local _ .vmem, ⟨0, _⟩ => ⟨S256x8x768, .f32⟩
  | .local _ .vmem, ⟨1, _⟩ => ⟨S256x8x768, .f32⟩
  | .local _ .vmem, ⟨2, _⟩ => ⟨S1x768, .f32⟩
  | .local _ .vmem, ⟨3, _⟩ => ⟨S768x768, .bf16⟩
  | .local _ .vmem, ⟨4, _⟩ => ⟨S1x768, .f32⟩
  | .local _ .vmem, ⟨5, _⟩ => ⟨S256x4096, .bf16⟩
  | .local _ .vmem, ⟨6, _⟩ => ⟨S256x4096, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S4096x768, .bf16⟩
  | .local _ .vmem, ⟨12, _⟩ => ⟨S768x4096, .bf16⟩
  | .local _ .smem, ⟨0, _⟩ => ⟨S1x1, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c256_i32 : BitVec 32 := 256#32
  let v63 : BitVec 32 := Scalar.muli arg1 c256_i32
  v63
def k0_off1 (i : grid0.Coords) : Fin 2 → Nat :=
  let arg1 : BitVec 32 := BitVec.ofNat 32 (i 1).val
  let c256_i32 : BitVec 32 := 256#32
  let v63 : BitVec 32 := Scalar.muli arg1 c256_i32
  let v64 : BitVec 32 := v63
  let v65 : Index := Scalar.indexCast v64
  let c0_22 : Index := 0#32
  ![v65.toNat, 0]
def k0_off2 (i : grid0.Coords) : Fin 2 → Nat :=
  let c0_26 : Index := 0#32
  let arg1 : BitVec 32 := BitVec.ofNat 32 (i 1).val
  let c256_i32 : BitVec 32 := 256#32
  let v63 : BitVec 32 := Scalar.muli arg1 c256_i32
  let v64 : BitVec 32 := v63
  let v78 : Index := Scalar.indexCast v64
  ![0, v78.toNat]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_mult2 (i : grid0.Coords) : BitVec 32 :=
  let arg1 : BitVec 32 := BitVec.ofNat 32 (i 1).val
  let c256_i32 : BitVec 32 := 256#32
  let v6 : BitVec 32 := Scalar.muli arg1 c256_i32
  v6
def k0_mult3 (i : grid0.Coords) : BitVec 32 :=
  let arg1 : BitVec 32 := BitVec.ofNat 32 (i 1).val
  let c8_i32 : BitVec 32 := 8#32
  let v8 : BitVec 32 := Scalar.addi arg1 c8_i32
  let c16_i32 : BitVec 32 := 16#32
  let c0_i32_2 : BitVec 32 := 0#32
  let v9 : BitVec 1 := Scalar.cmpi .eq c16_i32 c0_i32_2
  let c1_i32_3 : BitVec 32 := 1#32
  let v10 : BitVec 32 := Scalar.select v9 c1_i32_3 c16_i32
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c256_i32_7 : BitVec 32 := 256#32
  let v19 : BitVec 32 := Scalar.muli v18 c256_i32_7
  v19
def k0_off3 (i : grid0.Coords) : Fin 2 → Nat :=
  let arg1 : BitVec 32 := BitVec.ofNat 32 (i 1).val
  let c256_i32 : BitVec 32 := 256#32
  let v6 : BitVec 32 := Scalar.muli arg1 c256_i32
  let v7 : BitVec 32 := v6
  let v21 : Index := Scalar.indexCast v7
  let c0 : Index := 0#32
  ![v21.toNat, 0]
def k0_off4 (i : grid0.Coords) : Fin 2 → Nat :=
  let arg1 : BitVec 32 := BitVec.ofNat 32 (i 1).val
  let c8_i32 : BitVec 32 := 8#32
  let v8 : BitVec 32 := Scalar.addi arg1 c8_i32
  let c16_i32 : BitVec 32 := 16#32
  let c0_i32_2 : BitVec 32 := 0#32
  let v9 : BitVec 1 := Scalar.cmpi .eq c16_i32 c0_i32_2
  let c1_i32_3 : BitVec 32 := 1#32
  let v10 : BitVec 32 := Scalar.select v9 c1_i32_3 c16_i32
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c256_i32_7 : BitVec 32 := 256#32
  let v19 : BitVec 32 := Scalar.muli v18 c256_i32_7
  let v20 : BitVec 32 := v19
  let v45 : Index := Scalar.indexCast v20
  let c0_18 : Index := 0#32
  ![v45.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S32768x768 : Shape := ⟨2, ![32768, 768]⟩
abbrev S16384 : Shape := ⟨1, ![16384]⟩
abbrev S768x1 : Shape := ⟨2, ![768, 1]⟩
abbrev S_ : Shape := ⟨0, ![]⟩
abbrev S768x768 : Shape := ⟨2, ![768, 768]⟩
abbrev S768 : Shape := ⟨1, ![768]⟩
abbrev S16384x768 : Shape := ⟨2, ![16384, 768]⟩
abbrev S16384x1 : Shape := ⟨2, ![16384, 1]⟩
abbrev S2048 : Shape := ⟨1, ![2048]⟩
abbrev S2048x768 : Shape := ⟨2, ![2048, 768]⟩
abbrev S1x768 : Shape := ⟨2, ![1, 768]⟩
abbrev S4096x768 : Shape := ⟨2, ![4096, 768]⟩
abbrev S4096 : Shape := ⟨1, ![4096]⟩
abbrev S4096x1 : Shape := ⟨2, ![4096, 1]⟩
abbrev S768x4096 : Shape := ⟨2, ![768, 4096]⟩
abbrev S4096x4096 : Shape := ⟨2, ![4096, 4096]⟩
abbrev S1x4096 : Shape := ⟨2, ![1, 4096]⟩
abbrev S4096x1x1 : Shape := ⟨3, ![4096, 1, 1]⟩
abbrev S1 : Shape := ⟨1, ![1]⟩
abbrev S1x1x1 : Shape := ⟨3, ![1, 1, 1]⟩
abbrev S4096x128 : Shape := ⟨2, ![4096, 128]⟩

abbrev nBuf : Space → Nat
  | .hbm => 172
  | .vmem => 0
  | .smem => 0
  | _ => 0

abbrev hbmTy0_0 (i : Nat) : BufTy := match i % 128 with
  | 0 => ⟨S32768x768, .f32⟩
  | 1 => ⟨S16384, .i32⟩
  | 2 => ⟨S16384, .i32⟩
  | 3 => ⟨S768x1, .f32⟩
  | 4 => ⟨S_, .f32⟩
  | 5 => ⟨S768x768, .f32⟩
  | 6 => ⟨S768, .f32⟩
  | 7 => ⟨S16384x768, .f32⟩
  | 8 => ⟨S16384x768, .f32⟩
  | 9 => ⟨S16384x1, .f32⟩
  | 10 => ⟨S16384, .f32⟩
  | 11 => ⟨S16384, .f32⟩
  | 12 => ⟨S16384, .f32⟩
  | 13 => ⟨S_, .f32⟩
  | 14 => ⟨S_, .f32⟩
  | 15 => ⟨S16384, .f32⟩
  | 16 => ⟨S16384, .f32⟩
  | 17 => ⟨S16384, .f32⟩
  | 18 => ⟨S_, .f32⟩
  | 19 => ⟨S2048, .f32⟩
  | 20 => ⟨S16384x1, .i32⟩
  | 21 => ⟨S2048, .f32⟩
  | 22 => ⟨S_, .i32⟩
  | 23 => ⟨S16384, .i32⟩
  | 24 => ⟨S16384, .i1⟩
  | 25 => ⟨S_, .i32⟩
  | 26 => ⟨S16384, .i32⟩
  | 27 => ⟨S16384, .i32⟩
  | 28 => ⟨S16384, .i32⟩
  | 29 => ⟨S16384x1, .i32⟩
  | 30 => ⟨S16384, .f32⟩
  | 31 => ⟨S_, .f32⟩
  | 32 => ⟨S16384, .f32⟩
  | 33 => ⟨S16384, .f32⟩
  | 34 => ⟨S16384, .f32⟩
  | 35 => ⟨S16384x1, .f32⟩
  | 36 => ⟨S16384x768, .f32⟩
  | 37 => ⟨S16384x768, .f32⟩
  | 38 => ⟨S_, .f32⟩
  | 39 => ⟨S2048x768, .f32⟩
  | 40 => ⟨S16384x1, .i32⟩
  | 41 => ⟨S2048x768, .f32⟩
  | 42 => ⟨S768x768, .f32⟩
  | 43 => ⟨S2048x768, .f32⟩
  | 44 => ⟨S1x768, .f32⟩
  | 45 => ⟨S2048x768, .f32⟩
  | 46 => ⟨S2048x768, .f32⟩
  | 47 => ⟨S16384x1, .f32⟩
  | 48 => ⟨S16384, .f32⟩
  | 49 => ⟨S16384, .f32⟩
  | 50 => ⟨S16384, .f32⟩
  | 51 => ⟨S_, .f32⟩
  | 52 => ⟨S_, .f32⟩
  | 53 => ⟨S16384, .f32⟩
  | 54 => ⟨S16384, .f32⟩
  | 55 => ⟨S16384, .f32⟩
  | 56 => ⟨S_, .f32⟩
  | 57 => ⟨S2048, .f32⟩
  | 58 => ⟨S16384x1, .i32⟩
  | 59 => ⟨S2048, .f32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S16384, .f32⟩
  | 69 => ⟨S_, .f32⟩
  | 70 => ⟨S16384, .f32⟩
  | 71 => ⟨S16384, .f32⟩
  | 72 => ⟨S16384, .f32⟩
  | 73 => ⟨S16384x1, .f32⟩
  | 74 => ⟨S16384x768, .f32⟩
  | 75 => ⟨S16384x768, .f32⟩
  | 76 => ⟨S_, .f32⟩
  | 77 => ⟨S2048x768, .f32⟩
  | 78 => ⟨S16384x1, .i32⟩
  | 79 => ⟨S2048x768, .f32⟩
  | 80 => ⟨S768x768, .f32⟩
  | 81 => ⟨S2048x768, .f32⟩
  | 82 => ⟨S1x768, .f32⟩
  | 83 => ⟨S2048x768, .f32⟩
  | 84 => ⟨S2048x768, .f32⟩
  | 85 => ⟨S4096x768, .f32⟩
  | 86 => ⟨S4096x768, .f32⟩
  | 87 => ⟨S_, .f32⟩
  | 88 => ⟨S4096, .f32⟩
  | 89 => ⟨S4096x1, .f32⟩
  | 90 => ⟨S4096x1, .f32⟩
  | 91 => ⟨S4096x768, .f32⟩
  | 92 => ⟨S4096x768, .f32⟩
  | 93 => ⟨S768x4096, .f32⟩
  | 94 => ⟨S4096x4096, .f32⟩
  | 95 => ⟨S2048, .i32⟩
  | 96 => ⟨S2048, .i32⟩
  | 97 => ⟨S4096, .i32⟩
  | 98 => ⟨S1x4096, .i32⟩
  | 99 => ⟨S4096x1, .i32⟩
  | 100 => ⟨S4096x4096, .i32⟩
  | 101 => ⟨S4096x4096, .i32⟩
  | 102 => ⟨S4096x4096, .i1⟩
  | 103 => ⟨S_, .f32⟩
  | 104 => ⟨S4096x4096, .f32⟩
  | 105 => ⟨S4096x4096, .i1⟩
  | 106 => ⟨S4096x4096, .i1⟩
  | 107 => ⟨S4096x4096, .i1⟩
  | 108 => ⟨S4096x4096, .i1⟩
  | 109 => ⟨S4096x4096, .i1⟩
  | 110 => ⟨S4096x4096, .i1⟩
  | 111 => ⟨S_, .f32⟩
  | 112 => ⟨S_, .f32⟩
  | 113 => ⟨S4096x4096, .f32⟩
  | 114 => ⟨S4096x4096, .f32⟩
  | 115 => ⟨S4096x4096, .bf16⟩
  | 116 => ⟨S4096x4096, .i32⟩
  | 117 => ⟨S_, .i32⟩
  | 118 => ⟨S4096, .i32⟩
  | 119 => ⟨S4096x1, .i32⟩
  | 120 => ⟨S4096x1, .f32⟩
  | 121 => ⟨S4096, .i32⟩
  | 122 => ⟨S_, .i32⟩
  | 123 => ⟨S4096, .i32⟩
  | 124 => ⟨S4096, .i32⟩
  | 125 => ⟨S_, .i32⟩
  | 126 => ⟨S_, .i32⟩
  | 127 => ⟨S_, .i32⟩
  | _ => ⟨S32768x768, .f32⟩

abbrev hbmTy0_1 (i : Nat) : BufTy := match i % 128 with
  | 0 => ⟨S_, .i1⟩
  | 1 => ⟨S_, .i32⟩
  | 2 => ⟨S_, .i32⟩
  | 3 => ⟨S4096, .i32⟩
  | 4 => ⟨S4096, .i32⟩
  | 5 => ⟨S_, .i32⟩
  | 6 => ⟨S4096, .i32⟩
  | 7 => ⟨S4096, .i1⟩
  | 8 => ⟨S_, .i32⟩
  | 9 => ⟨S4096, .i32⟩
  | 10 => ⟨S4096, .i1⟩
  | 11 => ⟨S_, .i32⟩
  | 12 => ⟨S_, .i1⟩
  | 13 => ⟨S4096, .i1⟩
  | 14 => ⟨S4096, .i1⟩
  | 15 => ⟨S4096, .i1⟩
  | 16 => ⟨S4096, .i32⟩
  | 17 => ⟨S4096, .i32⟩
  | 18 => ⟨S4096, .i32⟩
  | 19 => ⟨S4096x1, .i32⟩
  | 20 => ⟨S_, .i32⟩
  | 21 => ⟨S4096x1, .i32⟩
  | 22 => ⟨S4096x1, .i1⟩
  | 23 => ⟨S_, .i32⟩
  | 24 => ⟨S4096x1, .i32⟩
  | 25 => ⟨S4096x1, .i32⟩
  | 26 => ⟨S4096x1, .i32⟩
  | 27 => ⟨S4096x1x1, .i32⟩
  | 28 => ⟨S1, .i32⟩
  | 29 => ⟨S_, .i32⟩
  | 30 => ⟨S4096x1x1, .i32⟩
  | 31 => ⟨S4096x1x1, .i1⟩
  | 32 => ⟨S1x1x1, .i32⟩
  | 33 => ⟨S4096x1x1, .i32⟩
  | 34 => ⟨S4096x1x1, .i1⟩
  | 35 => ⟨S4096x1x1, .i1⟩
  | 36 => ⟨S_, .i1⟩
  | 37 => ⟨S4096x1, .i1⟩
  | 38 => ⟨S4096x1, .f32⟩
  | 39 => ⟨S_, .f32⟩
  | 40 => ⟨S4096x1, .f32⟩
  | 41 => ⟨S4096x1, .f32⟩
  | 42 => ⟨S4096x128, .f32⟩
  | 43 => ⟨S4096x128, .f32⟩
  | _ => ⟨S32768x768, .f32⟩

abbrev hbmTy (i : Nat) : BufTy := match i / 128 with
  | 0 => hbmTy0_0 i
  | 1 => hbmTy0_1 i
  | _ => ⟨S32768x768, .f32⟩

abbrev bufTy : (tb : Table) → Fin (tcTables nBuf tb) → BufTy
  | .hbm, ⟨i, _⟩ => hbmTy i
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_c_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_call0_v0 : Ref sig .tc := ⟨.hbm, 86, rfl⟩
abbrev main_call0_cst : Ref sig .tc := ⟨.hbm, 87, rfl⟩
abbrev main_call0_v1 : Ref sig .tc := ⟨.hbm, 88, rfl⟩
abbrev main_call0_v2 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_10 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_11 : Ref sig .tc := ⟨.hbm, 111, rfl⟩
abbrev main_call1_v0 : Ref sig .tc := ⟨.hbm, 112, rfl⟩
abbrev main_call1_v1 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_12 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_13 : Ref sig .tc := ⟨.hbm, 122, rfl⟩
abbrev main_v94 : Ref sig .tc := ⟨.hbm, 123, rfl⟩
abbrev main_v95 : Ref sig .tc := ⟨.hbm, 124, rfl⟩
abbrev main_c_14 : Ref sig .tc := ⟨.hbm, 125, rfl⟩
abbrev main_call2_v0 : Ref sig .tc := ⟨.hbm, 126, rfl⟩
abbrev main_call2_c : Ref sig .tc := ⟨.hbm, 127, rfl⟩
abbrev main_call2_v1 : Ref sig .tc := ⟨.hbm, 128, rfl⟩
abbrev main_call2_c_0 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_call2_c_1 : Ref sig .tc := ⟨.hbm, 133, rfl⟩
abbrev main_call2_v5 : Ref sig .tc := ⟨.hbm, 134, rfl⟩
abbrev main_call2_v6 : Ref sig .tc := ⟨.hbm, 135, rfl⟩
abbrev main_call2_c_2 : Ref sig .tc := ⟨.hbm, 136, rfl⟩
abbrev main_call2_v7 : Ref sig .tc := ⟨.hbm, 137, rfl⟩
abbrev main_call2_v8 : Ref sig .tc := ⟨.hbm, 138, rfl⟩
abbrev main_call2_c_3 : Ref sig .tc := ⟨.hbm, 139, rfl⟩
abbrev main_call2_v9 : Ref sig .tc := ⟨.hbm, 140, rfl⟩
abbrev main_call2_v10 : Ref sig .tc := ⟨.hbm, 141, rfl⟩
abbrev main_call2_v11 : Ref sig .tc := ⟨.hbm, 142, rfl⟩
abbrev main_call2_v12 : Ref sig .tc := ⟨.hbm, 143, rfl⟩
abbrev main_call2_v13 : Ref sig .tc := ⟨.hbm, 144, rfl⟩
abbrev main_call2_v14 : Ref sig .tc := ⟨.hbm, 145, rfl⟩
abbrev main_v96 : Ref sig .tc := ⟨.hbm, 146, rfl⟩
abbrev main_v97 : Ref sig .tc := ⟨.hbm, 147, rfl⟩
abbrev main_call3_c : Ref sig .tc := ⟨.hbm, 148, rfl⟩
abbrev main_call3_v0 : Ref sig .tc := ⟨.hbm, 149, rfl⟩
abbrev main_call3_v1 : Ref sig .tc := ⟨.hbm, 150, rfl⟩
abbrev main_call3_c_0 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_call3_v5 : Ref sig .tc := ⟨.hbm, 155, rfl⟩
abbrev main_call3_c_1 : Ref sig .tc := ⟨.hbm, 156, rfl⟩
abbrev main_call3_c_2 : Ref sig .tc := ⟨.hbm, 157, rfl⟩
abbrev main_call3_v6 : Ref sig .tc := ⟨.hbm, 158, rfl⟩
abbrev main_call3_v7 : Ref sig .tc := ⟨.hbm, 159, rfl⟩
abbrev main_call3_v8 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_call3_c_3 : Ref sig .tc := ⟨.hbm, 164, rfl⟩
abbrev main_call3_v12 : Ref sig .tc := ⟨.hbm, 165, rfl⟩
abbrev main_call3_v13 : Ref sig .tc := ⟨.hbm, 166, rfl⟩
abbrev main_call3_cst : Ref sig .tc := ⟨.hbm, 167, rfl⟩
abbrev main_call3_v14 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩

abbrev nD : Nat := 1
abbrev τ : Topo := Topo.v7x

variable {F : FTy → Type} [FloatOps F]
-- ==== Loss.lean ====
abbrev S4096x4096 : Shape := ⟨2, ![4096, 4096]⟩
abbrev S4096x128 : Shape := ⟨2, ![4096, 128]⟩
abbrev S4096x1 : Shape := ⟨2, ![4096, 1]⟩
abbrev S4096 : Shape := ⟨1, ![4096]⟩
abbrev S32x128 : Shape := ⟨2, ![32, 128]⟩
abbrev S8x128 : Shape := ⟨2, ![8, 128]⟩
abbrev S256x128 : Shape := ⟨2, ![256, 128]⟩
abbrev S256x4096 : Shape := ⟨2, ![256, 4096]⟩
abbrev S1x32x128 : Shape := ⟨3, ![1, 32, 128]⟩
abbrev S1 : Shape := ⟨1, ![1]⟩
abbrev S1x1x1 : Shape := ⟨3, ![1, 1, 1]⟩
abbrev S256 : Shape := ⟨1, ![256]⟩
abbrev S256x1 : Shape := ⟨2, ![256, 1]⟩
abbrev S256x2048 : Shape := ⟨2, ![256, 2048]⟩
abbrev S256x1024 : Shape := ⟨2, ![256, 1024]⟩
abbrev S256x512 : Shape := ⟨2, ![256, 512]⟩
abbrev S256x256 : Shape := ⟨2, ![256, 256]⟩
abbrev S1x256x1 : Shape := ⟨3, ![1, 256, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x128, .f32⟩
  | .hbm, ⟨2, _⟩ => ⟨S4096x128, .f32⟩
  | .hbm, ⟨3, _⟩ => ⟨S4096x1, .f32⟩
  | .hbm, ⟨4, _⟩ => ⟨S4096, .f32⟩
  | .hbm, ⟨5, _⟩ => ⟨S32x128, .f32⟩
  | .hbm, ⟨6, _⟩ => ⟨S8x128, .f32⟩
  | .local _ .vmem, ⟨0, _⟩ => ⟨S32x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x4096, .bf16⟩
  | .local _ .vmem, ⟨6, _⟩ => ⟨S256x4096, .bf16⟩
  | .local _ .vmem, ⟨7, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c10_i32 : BitVec 32 := 10#32
  let v21 : BitVec 32 := Scalar.addi c0_i32 c10_i32
  let c1_i32 : BitVec 32 := 1#32
  ⟨c0_i32, v21, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Proof.Math.lean ====
module

public import Idealize.ShloMosaic.PureOps
public import Idealize.ShloMosaic.Lib.ValueIdx

/-!
  The mathematics of the two programs over the extended reals, with no arrays in it: a softmax weighted
  sum taken with another shift and another small constant differs by one positive real factor, and a
  row divided by its own Euclidean norm does not change when the row is multiplied by a positive real.
-/

@[expose] public section

noncomputable section

namespace Cert.Pose

open Idealize.ShloMosaic

/-- The exponential of a real number, read at the extended reals. -/
theorem exp_coe (r : ℝ) : Ideal.exp (r : EReal) = (Real.exp r : EReal) := rfl

/-- A real quotient by a nonzero real, read at the extended reals. -/
theorem div_coe (x y : ℝ) (hy : y ≠ 0) : Ideal.div (x : EReal) (y : EReal) = ((x / y : ℝ) : EReal) := by
  have : ((y : ℝ) : EReal) ≠ 0 := fun h => hy (by exact_mod_cast h)
  unfold Ideal.div
  rw [if_neg this, ← EReal.coe_inv, ← EReal.coe_mul, div_eq_mul_inv]

/-- A finite sum of reals, read at the extended reals. -/
theorem sum_coe {ι : Type} [Fintype ι] (f : ι → ℝ) : ∑ i, (f i : EReal) = ((∑ i, f i : ℝ) : EReal) := by
  classical
  refine Finset.induction_on (Finset.univ : Finset ι) (by simp) fun a s ha ih => ?_
  rw [Finset.sum_insert ha, Finset.sum_insert ha, ih, EReal.coe_add]

/-- A nonnegative real goes into a sum of extended reals. -/
theorem coe_mul_sum {ι : Type} (s : Finset ι) (c : ℝ) (hc : 0 ≤ c) (f : ι → EReal) :
    (c : EReal) * ∑ i ∈ s, f i = ∑ i ∈ s, (c : EReal) * f i := by
  classical
  refine Finset.induction_on s (by simp) fun a s ha ih => ?_
  rw [Finset.sum_insert ha, Finset.sum_insert ha, ← ih,
    EReal.left_distrib_of_nonneg_of_ne_top (by exact_mod_cast hc) (EReal.coe_ne_top c)]

/-- Two sums' products with a positive real: a product with `c` is zero only when the factor is. -/
theorem coe_mul_eq_zero {c : ℝ} (hc : 0 < c) (x : EReal) : (c : EReal) * x = 0 ↔ x = 0 := by
  have : (c : EReal) ≠ 0 := by exact_mod_cast hc.ne'
  simp [this]

/-- A positive real factor keeps the sign. -/
theorem coe_mul_pos {c : ℝ} (hc : 0 < c) (x : EReal) : 0 < (c : EReal) * x ↔ 0 < x := by
  rcases lt_trichotomy x 0 with h | h | h
  · exact ⟨fun h' => absurd h' (not_lt.2 (mul_nonpos_of_nonneg_of_nonpos (by exact_mod_cast hc.le) h.le)),
      fun h' => absurd h' (not_lt.2 h.le)⟩
  · subst h; simp
  · exact ⟨fun _ => h, fun _ => EReal.mul_pos (by exact_mod_cast hc) h⟩

/-- A common positive real factor of numerator and denominator cancels. -/
theorem div_coe_mul {c : ℝ} (hc : 0 < c) (x y : EReal) :
    Ideal.div ((c : EReal) * x) ((c : EReal) * y) = Ideal.div x y := by
  unfold Ideal.div
  by_cases hy : y = 0
  · rw [if_pos hy, if_pos ((coe_mul_eq_zero hc y).2 hy)]
    simp only [coe_mul_pos hc]
  · rw [if_neg hy, if_neg (fun h => hy ((coe_mul_eq_zero hc y).1 h)), EReal.mul_inv]
    have hcc : (c : EReal) * ((c : EReal))⁻¹ = 1 := by
      rw [← EReal.coe_inv, ← EReal.coe_mul, mul_inv_cancel₀ hc.ne']; rfl
    calc (c : EReal) * x * ((c : EReal)⁻¹ * y⁻¹) = ((c : EReal) * (c : EReal)⁻¹) * (x * y⁻¹) := by
          rw [mul_mul_mul_comm]
      _ = x * y⁻¹ := by rw [hcc, one_mul]

/-- The square root of `c²·x` for a positive real `c` and a nonnegative `x`. -/
theorem sqrt_coe_mul {c : ℝ} (hc : 0 < c) (x : EReal) (hx : 0 ≤ x) :
    Ideal.sqrt ((c : EReal) * (c : EReal) * x) = (c : EReal) * Ideal.sqrt x := by
  induction x with
  | bot => exact absurd hx (by simp)
  | top =>
    rw [← EReal.coe_mul, EReal.coe_mul_top_of_pos (mul_pos hc hc)]
    show (⊤ : EReal) = (c : EReal) * ⊤
    rw [EReal.coe_mul_top_of_pos hc]
  | coe r =>
    have hr : 0 ≤ r := by exact_mod_cast hx
    rw [← EReal.coe_mul, ← EReal.coe_mul]
    show (if c * c * r < 0 then ⊥ else ((Real.sqrt (c * c * r) : ℝ) : EReal))
      = (c : EReal) * (if r < 0 then ⊥ else ((Real.sqrt r : ℝ) : EReal))
    rw [if_neg (not_lt.2 (by positivity)), if_neg (not_lt.2 hr), ← EReal.coe_mul,
      Real.sqrt_mul (by positivity), Real.sqrt_mul_self hc.le]

/-- A square of an extended real is not negative. -/
theorem mul_self_nonneg' (x : EReal) : 0 ≤ x * x := by
  rcases le_total 0 x with h | h
  · exact mul_nonneg h h
  · rw [← neg_mul_neg]
    have : 0 ≤ -x := by simpa using EReal.neg_le_neg_iff.2 h
    exact mul_nonneg this this

/-- An entry of a row divided by the row's Euclidean norm. -/
def unit {ι : Type} [Fintype ι] (g : ι → EReal) (d : ι) : EReal :=
  Ideal.div (g d) (Ideal.sqrt (∑ e, g e * g e))

/-- Dividing a row by its norm forgets a positive real factor of the row. -/
theorem unit_coe_mul {ι : Type} [Fintype ι] {c : ℝ} (hc : 0 < c) (g : ι → EReal) (d : ι) :
    unit (fun e => (c : EReal) * g e) d = unit g d := by
  unfold unit
  have h : ∑ e, (c : EReal) * g e * ((c : EReal) * g e) = (c : EReal) * (c : EReal) * ∑ e, g e * g e := by
    rw [← EReal.coe_mul, coe_mul_sum _ _ (mul_pos hc hc).le]
    exact Finset.sum_congr rfl fun e _ => by rw [EReal.coe_mul, mul_mul_mul_comm]
  rw [h, sqrt_coe_mul hc _ (Finset.sum_nonneg fun e _ => mul_self_nonneg' _), div_coe_mul hc]

/-- Scores that are all real, or all infinite: what a real row of products divided by any temperature gives. -/
def Even {ι : Type} (s : ι → EReal) : Prop := (∃ f : ι → ℝ, ∀ n, s n = f n) ∨ ∀ n, s n = ⊤ ∨ s n = ⊥

/-- Real numbers divided by one extended real are all real or all infinite. -/
theorem even_div {ι : Type} (x : ι → ℝ) (t : EReal) : Even fun n => Ideal.div (x n : EReal) t := by
  by_cases ht : t = 0
  · right
    intro n
    show (if t = 0 then (if 0 < (x n : EReal) then ⊤ else ⊥) else (x n : EReal) * t⁻¹) = ⊤ ∨ (if t = 0 then (if 0 < (x n : EReal) then ⊤ else ⊥) else (x n : EReal) * t⁻¹) = ⊥
    rw [if_pos ht]
    split <;> simp
  · left
    refine ⟨fun n => x n * (t⁻¹).toReal, fun n => ?_⟩
    show (if t = 0 then (if 0 < (x n : EReal) then ⊤ else ⊥) else (x n : EReal) * t⁻¹) = ((x n * (t⁻¹).toReal : ℝ) : EReal)
    rw [if_neg ht, EReal.coe_mul]
    congr 1
    induction t with
    | bot => simp
    | top => simp
    | coe r => rw [← EReal.coe_inv, EReal.toReal_coe]

/-- An infinite score below the shift has exponential zero. -/
theorem exp_sub_infinite {a M : EReal} (ha : a = ⊤ ∨ a = ⊥) (hM : a ≤ M) : Ideal.exp (a - M) = 0 := by
  rcases ha with rfl | rfl
  · rw [top_le_iff.1 hM]; rfl
  · rw [EReal.bot_sub]; rfl

/-- **The pooling's factor.** Weights `exp (s − M) / (∑ exp (s − M) + ε)` applied to real rows give, in every
    column, one positive real times what `exp (s − m)` weighted sums divided by `∑ exp (s − m) + ε` give, when
    both shifts are at least the scores and real wherever the scores are. -/
theorem pool_factor {ι κ : Type} [Fintype ι] [Nonempty ι] (s : ι → EReal) (z : ι → κ → ℝ) (M m : EReal) (ε : ℝ)
    (hs : Even s) (hM : ∀ k, s k ≤ M) (hm : ∀ k, s k ≤ m)
    (hMr : (∃ f : ι → ℝ, ∀ k, s k = f k) → ∃ r : ℝ, M = r) (hmr : (∃ f : ι → ℝ, ∀ k, s k = f k) → ∃ r : ℝ, m = r)
    (hε : 0 < ε) :
    ∃ c : ℝ, 0 < c ∧ ∀ d,
      ∑ k, (z k d : EReal) * Ideal.div (Ideal.exp (s k - M)) ((∑ j, Ideal.exp (s j - M)) + (ε : EReal))
        = (c : EReal) * Ideal.div (∑ k, Ideal.exp (s k - m) * (z k d : EReal)) ((∑ j, Ideal.exp (s j - m)) + (ε : EReal)) := by
  rcases hs with ⟨f, hf⟩ | hs
  · obtain ⟨μ, rfl⟩ := hMr ⟨f, hf⟩
    obtain ⟨ν, rfl⟩ := hmr ⟨f, hf⟩
    set e : ι → ℝ := fun k => Real.exp (f k - ν) with he
    set a : ℝ := Real.exp (ν - μ) with ha
    have hapos : 0 < a := Real.exp_pos _
    have hS : 0 < ∑ k, e k := Finset.sum_pos (fun k _ => Real.exp_pos _) Finset.univ_nonempty
    have h1 : ∀ k, Ideal.exp (s k - (ν : EReal)) = (e k : EReal) := fun k => by
      rw [hf, ← EReal.coe_sub, exp_coe]
    have h2 : ∀ k, Ideal.exp (s k - (μ : EReal)) = ((a * e k : ℝ) : EReal) := fun k => by
      rw [hf, ← EReal.coe_sub, exp_coe, he, ha, ← Real.exp_add]
      congr 2; ring
    have hd1 : 0 < ∑ k, e k + ε := by positivity
    have hd2 : 0 < ∑ k, a * e k + ε := by rw [← Finset.mul_sum]; positivity
    refine ⟨a * (∑ k, e k + ε) / (∑ k, a * e k + ε), by positivity, fun d => ?_⟩
    simp only [h1, h2, sum_coe, ← EReal.coe_add, ← EReal.coe_mul]
    rw [div_coe _ _ hd1.ne']
    simp only [div_coe _ _ hd2.ne', ← EReal.coe_mul, sum_coe]
    congr 1
    have : ∑ k, z k d * (a * e k / (∑ k, a * e k + ε)) = a / (∑ k, a * e k + ε) * ∑ k, e k * z k d := by
      rw [Finset.mul_sum]
      exact Finset.sum_congr rfl fun k _ => by ring
    rw [this]
    field_simp
  · refine ⟨1, one_pos, fun d => ?_⟩
    have h1 : ∀ k, Ideal.exp (s k - M) = 0 := fun k => exp_sub_infinite (hs k) (hM k)
    have h2 : ∀ k, Ideal.exp (s k - m) = 0 := fun k => exp_sub_infinite (hs k) (hm k)
    simp only [h1, h2, Finset.sum_const_zero, zero_add, zero_mul]
    have : Ideal.div 0 (ε : EReal) = 0 := by
      rw [← EReal.coe_zero, div_coe _ _ hε.ne', zero_div]
    simp [this]

/-- The maximum fold from minus infinity is at least every member. -/
theorem le_fold_max {ι : Type} (S : Finset ι) (s : ι → EReal) {k : ι} (hk : k ∈ S) : s k ≤ S.fold max ⊥ s :=
  (Finset.le_fold_max _).2 (.inr ⟨k, hk, le_rfl⟩)

/-- The maximum fold from minus infinity of reals over a nonempty set is real. -/
theorem fold_max_real {ι : Type} (S : Finset ι) (hS : S.Nonempty) (s : ι → EReal) (f : ι → ℝ) (hf : ∀ k, s k = f k) :
    ∃ r : ℝ, S.fold max ⊥ s = r := by
  have hb : S.fold max ⊥ s ≠ ⊥ := by
    obtain ⟨k, hk⟩ := hS
    intro h
    have := le_fold_max S s hk
    rw [h, hf, le_bot_iff] at this
    exact EReal.coe_ne_bot _ this
  have ht : S.fold max ⊥ s ≠ ⊤ := by
    have : S.fold max ⊥ s < ⊤ := (Finset.fold_max_lt _).2 ⟨bot_lt_top, fun k _ => by rw [hf]; exact EReal.coe_lt_top _⟩
    exact this.ne
  exact ⟨_, (EReal.coe_toReal ht hb).symm⟩

/-- **One row.** Two pooled rows a positive real apart, projected by any matrix with no offset, have the same
    normalised row. -/
theorem unit_project {κ ι : Type} [Fintype κ] [Fintype ι] {c : ℝ} (hc : 0 < c) (P K : κ → EReal) (h : ∀ e, P e = (c : EReal) * K e)
    (W : κ → ι → EReal) (d : ι) :
    unit (fun d => ∑ e, P e * W e d) d = unit (fun d => ∑ e, K e * W e d) d := by
  rw [← unit_coe_mul hc (fun d => ∑ e, K e * W e d)]
  congr 1
  funext d
  rw [coe_mul_sum _ _ hc.le]
  exact Finset.sum_congr rfl fun e _ => by rw [h e, mul_assoc]

end Cert.Pose

end
-- ==== Proof.Spec.lean ====
module

public import proofs.«01_k».proof.Proof.Math
public import Idealize.ShloMosaic.Lib.Pointwise
public import Idealize.ShloMosaic.Lib.WordCmp

/-!
  What the three results are, as functions of the problem's arguments at coordinates: each table's eight
  rows pooled by their softmax scores, projected and normalised to one feature row per table; the
  similarities of the features, masked; the number of kept entries per row; and each row's similarity
  to the same table's other view.
-/

@[expose] public section

noncomputable section

namespace Cert.Pose

open Idealize.ShloMosaic

/-- A row's attention score: its product with the query, divided by the temperature. -/
def score (y q : Fin 768 → EReal) (t : EReal) : EReal := Ideal.div (∑ d, y d * q d) t

/-- The largest of a table's eight scores. -/
def top (y : Fin 8 → Fin 768 → EReal) (q : Fin 768 → EReal) (t : EReal) : EReal :=
  (Finset.univ : Finset (Fin 8)).fold max ⊥ fun k => score (y k) q t

/-- The small constant the softmax denominators add: the value of the float word of 1e-8. -/
def eps : EReal := Ideal.ofBits .f32 0x322BCC77#32

/-- A table's pooled row. -/
def pooled (y : Fin 8 → Fin 768 → EReal) (q : Fin 768 → EReal) (t : EReal) (d : Fin 768) : EReal :=
  Ideal.div (∑ k, Ideal.exp (score (y k) q t - top y q t) * y k d) ((∑ k, Ideal.exp (score (y k) q t - top y q t)) + eps)

/-- A projected row: `W` row by row, plus the offset. -/
def proj (p : Fin 768 → EReal) (W : Fin 768 → Fin 768 → EReal) (b : Fin 768 → EReal) (d : Fin 768) : EReal :=
  (∑ e, p e * W d e) + b d

/-- The rows of table `r`: eight consecutive ones. -/
def row (r : Fin 4096) (k : Fin 8) : Fin 32768 := ⟨8 * r.val + k.val, by omega⟩

/-- The feature row of table `r`. -/
def feat (z : Fin 32768 → Fin 768 → EReal) (q : Fin 768 → EReal) (t : EReal) (W : Fin 768 → Fin 768 → EReal) (b : Fin 768 → EReal)
    (r : Fin 4096) (d : Fin 768) : EReal :=
  unit (proj (pooled (fun k => z (row r k)) q t) W b) d

/-- The similarity of two feature rows. -/
def sim (f : Fin 4096 → Fin 768 → EReal) (i j : Fin 4096) : EReal := ∑ d, f i d * f j d

/-- Whether the entry is a safe negative: not above the threshold (the value of the float word of 0.9), and of two different tables. -/
def Safe (f : Fin 4096 → Fin 768 → EReal) (i j : Fin 4096) : Prop :=
  ¬ Ideal.ofBits .f32 0x3F666666#32 < sim f i j ∧ ¬ i.val % 2048 = j.val % 2048

open Classical in
/-- The masked similarity: minus ten where the entry is not a safe negative. -/
def neg (f : Fin 4096 → Fin 768 → EReal) (i j : Fin 4096) : EReal :=
  if Safe f i j then sim f i j else Ideal.ofBits .f32 0xC1200000#32

open Classical in
/-- The number of safe negatives of a row. -/
def cnt (f : Fin 4096 → Fin 768 → EReal) (i : Fin 4096) : EReal := ∑ j, if Safe f i j then 1 else 0

/-- The other view of the same table. -/
def pair (i : Fin 4096) : Fin 4096 := ⟨(i.val + 2048) % 4096, Nat.mod_lt _ (by decide)⟩

/-- The similarity to it. -/
def pos (f : Fin 4096 → Fin 768 → EReal) (i : Fin 4096) : EReal := sim f i (pair i)

/-! ## Words -/

/-- The constant of the softmax denominators is a positive real. -/
theorem eps_pos : ∃ ε : ℝ, 0 < ε ∧ eps = ε := by
  refine ⟨11258999 * (2 ^ 50)⁻¹, by positivity, ?_⟩
  rw [EReal.coe_mul]
  simp [eps, Ideal.ofBits, Ideal.ieee]

/-- The float word of minus infinity. -/
theorem ofBits_neg_inf : Ideal.ofBits .f32 0xFF800000#32 = ⊥ := by
  simp [Ideal.ofBits, Ideal.ieee]

/-- The float word of plus infinity. -/
theorem ofBits_inf : Ideal.ofBits .f32 0x7F800000#32 = ⊤ := by
  simp [Ideal.ofBits, Ideal.ieee]

/-- Shifting an index word right by three divides it by eight. -/
theorem shr3 (u : ArithUnit) (n : ℕ) (h : n < 2 ^ 31) : IntOp.shrsi u (BitVec.ofNat 32 n) 3#32 = BitVec.ofNat 32 (n / 8) := by
  unfold IntOp.shrsi
  rw [if_pos (by decide)]
  have hm : (BitVec.ofNat 32 n).msb = false := by
    rw [BitVec.msb_eq_false_iff_two_mul_lt, BitVec.toNat_ofNat]; omega
  rw [show BitVec.sshiftRight' (BitVec.ofNat 32 n) 3#32 = (BitVec.ofNat 32 n).sshiftRight 3 from rfl,
    BitVec.sshiftRight_eq_of_msb_false hm]
  apply BitVec.eq_of_toNat_eq
  rw [BitVec.toNat_ushiftRight, BitVec.toNat_ofNat, BitVec.toNat_ofNat, Nat.shiftRight_eq_div_pow]
  omega

/-- The low three bits of an index word are its remainder by eight. -/
theorem and7 (n : ℕ) (h : n < 2 ^ 31) : IntOp.andi (BitVec.ofNat 32 n) 7#32 = BitVec.ofNat 32 (n % 8) := by
  apply BitVec.eq_of_toNat_eq
  show (BitVec.ofNat 32 n &&& 7#32).toNat = _
  rw [BitVec.toNat_and, BitVec.toNat_ofNat, BitVec.toNat_ofNat, BitVec.toNat_ofNat, show 7 % 2 ^ 32 = 2 ^ 3 - 1 from rfl,
    Nat.and_two_pow_sub_one_eq_mod]
  omega

/-- The low eleven bits of an index word are its remainder by 2048. -/
theorem and2047 (n : ℕ) (h : n < 2 ^ 31) : IntOp.andi (BitVec.ofNat 32 n) 2047#32 = BitVec.ofNat 32 (n % 2048) := by
  apply BitVec.eq_of_toNat_eq
  show (BitVec.ofNat 32 n &&& 2047#32).toNat = _
  rw [BitVec.toNat_and, BitVec.toNat_ofNat, BitVec.toNat_ofNat, BitVec.toNat_ofNat, show 2047 % 2 ^ 32 = 2 ^ 11 - 1 from rfl,
    Nat.and_two_pow_sub_one_eq_mod]
  omega

/-- Equality of two small index words is equality of the numbers. -/
theorem cmpi_eq (a b : ℕ) (ha : a < 2 ^ 31) (hb : b < 2 ^ 31) :
    IntOp.cmpi .eq (BitVec.ofNat 32 a) (BitVec.ofNat 32 b) = BitVec.ofBool (decide (a = b)) := by
  exact WordCmp.cmpi_eq_ofNat (by omega) (by omega)

/-- A select on a decided bit. -/
theorem select_ofBool {α : Type} (p : Prop) [Decidable p] (x y : α) :
    Scalar.select (BitVec.ofBool (decide p)) x y = if p then x else y := by
  by_cases h : p <;> simp [h, Scalar.select]

/-- A pair of coordinates, in the two spellings. -/
theorem pair_eq {a b : ℕ} (r : Fin a) (c : Fin b) : (Shape.pair (d := ![a, b]) r c : (⟨2, ![a, b]⟩ : Shape).Idx) = ix2 r c := by
  funext x
  match x with
  | ⟨0, _⟩ => rfl
  | ⟨1, _⟩ => rfl

end Cert.Pose

end
-- ==== Proof.Pre.lean ====
/-
  What the precondition says of the arguments: both index arrays run 0,0,0,0,0,0,0,0,1,1,…, the rows and the
  query are finite, the bias is zero.
-/
module

public import proofs.«01_k».proof.Pre_rows_of_eight
public import proofs.«01_k».proof.Proof.Spec

@[expose] public section

noncomputable section

namespace Cert.Pre_rows_of_eight.Hand

open Cert.Pre_rows_of_eight
open Idealize.ShloMosaic Idealize.ShloMosaic.TcCoe Idealize.ShloMosaic.StableHlo
open Cert.Pose

/-- The predicate's four broadcasts are of scalars. -/
theorem facts : Facts where
  bcast_S_S16384 := ⟨by decide, fun i => i.elim0⟩
  bcast_S_S32768x768 := ⟨by decide, fun i => i.elim0⟩
  bcast_S_S768x1 := ⟨by decide, fun i => i.elim0⟩
  bcast_S_S768 := ⟨by decide, fun i => i.elim0⟩

/-- A comparison for equality that answers one compared equal words. -/
theorem eq_of_cmpi {a b : BitVec 32} (h : IntOp.cmpi .eq a b = 1#1) : a = b := by
  by_contra hn
  have hb : (a == b) = false := by simpa using hn
  have hc : BitVec.ofBool (a == b) = 1#1 := h
  rw [hb] at hc
  exact absurd hc (by decide)

/-- A magnitude below the infinite word is a real number's. -/
theorem real_of_lt {a : EReal} (h : Ideal.cmp .olt (max a (-a)) (Ideal.ofBits .f32 0x7F800000#32) = 1#1) : a = (a.toReal : EReal) := by
  rw [ofBits_inf] at h
  have hlt : max a (-a) < ⊤ := by
    by_contra hn
    simp [Ideal.cmp, hn] at h
  have h1 : a < ⊤ := lt_of_le_of_lt (le_max_left _ _) hlt
  have h2 : -a < ⊤ := lt_of_le_of_lt (le_max_right _ _) hlt
  refine (EReal.coe_toReal h1.ne fun hb => ?_).symm
  rw [hb] at h2
  simp at h2

/-- A number that compares equal to the zero word is zero. -/
theorem zero_of_eq {a : EReal} (h : Ideal.cmp .oeq a (Ideal.ofBits .f32 0x00000000#32) = 1#1) : a = 0 := by
  by_contra hn
  simp [Ideal.cmp, hn] at h

variable [hF : Facts] (x0 : FVec Ideal S32768x768 .f32) (x1 x2 : IVec S16384 32) (x3 : FVec Ideal S768x1 .f32)
  (x4 : FVec Ideal S_ .f32) (x5 : FVec Ideal S768x768 .f32) (x6 : FVec Ideal S768 .f32)

/-- The first index array's entry n is n / 8. -/
theorem first (h : (fn (F := Ideal) x0 x1 x2 x3 x4 x5 x6).1 = fun _ => 1#1) (n : Fin 16384) :
    x1 (ix1 n) = BitVec.ofNat 32 (n.val / 8) := by
  have e := congrFun h (ix1 n)
  exact (eq_of_cmpi e).trans (shr3 _ n.val (by have := n.isLt; omega))

/-- The second index array's entry n is n / 8. -/
theorem second (h : (fn (F := Ideal) x0 x1 x2 x3 x4 x5 x6).2.1 = fun _ => 1#1) (n : Fin 16384) :
    x2 (ix1 n) = BitVec.ofNat 32 (n.val / 8) := by
  have e := congrFun h (ix1 n)
  exact (eq_of_cmpi e).trans (shr3 _ n.val (by have := n.isLt; omega))

/-- Every entry of the rows is a real number. -/
theorem rows (h : (fn (F := Ideal) x0 x1 x2 x3 x4 x5 x6).2.2.1 = fun _ => 1#1) (n : Fin 32768) (d : Fin 768) :
    x0 (ix2 n d) = ((x0 (ix2 n d)).toReal : EReal) :=
  real_of_lt (congrFun h (ix2 n d))

/-- Every entry of the query is a real number. -/
theorem query (h : (fn (F := Ideal) x0 x1 x2 x3 x4 x5 x6).2.2.2.1 = fun _ => 1#1) (d : Fin 768) :
    x3 (ix2 d 0) = ((x3 (ix2 d 0)).toReal : EReal) :=
  real_of_lt (congrFun h (ix2 d 0))

/-- Every entry of the bias is zero. -/
theorem bias (h : (fn (F := Ideal) x0 x1 x2 x3 x4 x5 x6).2.2.2.2 = fun _ => 1#1) (d : Fin 768) :
    x6 (ix1 d) = 0 :=
  zero_of_eq (congrFun h (ix1 d))

end Cert.Pre_rows_of_eight.Hand

end
-- ==== Proof.Body.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.DatRel
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The masked similarities of the 256 rows `w` against the columns `d`, as a point of the second phase computes them; `a` is its second
    grid coordinate. -/
def negW (a : BitVec 32) (w : Vec F S256x768 .bf16) (d : Vec F S768x4096 .bf16) : Vec F S256x4096 .bf16 :=
  k0_pay4 (k0_pay8 w d) (k0_pay9 a w d)

/-- The counts of safe negatives of the 256 rows `w` against the columns `d`. -/
def cntW (a : BitVec 32) (w : Vec F S256x768 .bf16) (d : Vec F S768x4096 .bf16) : Vec F S256x128 .f32 := k0_pay5 (k0_pay10 a w d)

/-- The one index of a one-element matrix. -/
def ix00 : S1x1.Idx := fun a => ⟨0, by fin_cases a <;> decide⟩

/-- The 256 rows of the first scratch that a point of the second phase reads. -/
abbrev rowsOf (i : grid0.Coords) (d : Vec F S4096x768 .bf16) (h : k0_cond2 i = 1#1) : Vec F S256x768 .bf16 :=
  VecWindow.window d (k0_off3 i) S256x768.size (k0_off3_inb i h)

/-- The 256 rows of the first scratch that hold the other view of those. -/
abbrev pairsOf (i : grid0.Coords) (d : Vec F S4096x768 .bf16) (h : k0_cond2 i = 1#1) : Vec F S256x768 .bf16 :=
  VecWindow.window d (k0_off4 i) S256x768.size (k0_off4_inb i h)

set_option maxHeartbeats 1000000 in
/-- A point of the first phase: the body leaves the inputs and the output buffers as they were, and puts its 256 normalised rows into
    the first scratch and their transpose into the second. -/
theorem runA (c : Dev nD) (i : grid0.Coords) (arg2 : Memref sig .tc .smem S1x1 .f32) (harg2 : arg2.IsWhole) (arg3 : Memref sig .tc .vmem S256x8x768 .f32) (harg3 : arg3.IsWhole) (arg4 : Memref sig .tc .vmem S1x768 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S256x4096 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S4096x768 .bf16) (harg10 : arg10.IsWhole) (arg11 : Memref sig .tc .vmem S768x4096 .bf16) (harg11 : arg11.IsWhole)
    (hc0 : k0_cond1 i = 1#1) (hc1 : ¬ k0_cond2 i = 1#1) (x0 : Vec F S1x1 .f32) (x1 : Vec F S256x8x768 .f32) (x2 : Vec F S1x768 .f32) (x3 : Vec F S768x768 .bf16) (x4 : Vec F S1x768 .f32)
    (d7 : Vec F S256x4096 .bf16) (d8 d9 : Vec F S256x128 .f32) (d10 : Vec F S4096x768 .bf16) (d11 : Vec F S768x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare d9 ∗ owns (c : Thread nD τ) arg10 fullShare (VecWindow.put d10 (k0_off1 i) S256x768.size (k0_pay2 (k0_pay7 x1 x2 (x0 ix00)) x3 x4)) ∗ owns (c : Thread nD τ) arg11 fullShare (VecWindow.put d11 (k0_off2 i) S768x256.size (k0_pay3 (k0_pay7 x1 x2 (x0 ix00)) x3 x4))) -∗ K ⟨⟩))
    ⊢ wp frame (wpE (defs₀ (F := F)) Variants.none c none) E (cc0_tactus_pose i arg2 harg2 arg3 harg3 arg4 harg4 arg5 harg5 arg6 harg6 arg7 harg7 arg8 harg8 arg9 harg9 arg10 harg10 arg11 harg11) K := by
  simp only [cc0_tactus_pose_eq_skeleton]; unfold cc0_tactus_pose_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf7; obtain rfl := harg8.eq_unread hf8; obtain rfl := harg9.eq_unread hf9; obtain rfl := harg10.eq_unread hf10; obtain rfl := harg11.eq_unread hf11
  sl_exec (disch := first | sl_exact hc0 | sl_exact hc1)
  sl_step
  have e0 : View.readAt (Elt F) arg2.view (Rect.unit (s := S1x1) ![0, 0] ![1, 1] inb_S1x1_S1x1_0_0).toLoadRect (harg2.unread x0) = x0 := (View.readAt_full _ _ _).trans hf0
  have e1 : View.readAt (Elt F) arg3.view (Rect.unit (s := S256x8x768) ![0, 0, 0] ![256, 8, 768] inb_S256x8x768_S256x8x768_0_0_0).toLoadRect (harg3.unread x1) = x1 := (View.readAt_full _ _ _).trans hf1
  have e2 : View.readAt (Elt F) arg4.view (Rect.unit (s := S1x768) ![0, 0] ![1, 768] inb_S1x768_S1x768_0_0).toLoadRect (harg4.unread x2) = x2 := (View.readAt_full _ _ _).trans hf2
  have e3 : View.readAt (Elt F) arg5.view (Rect.unit (s := S768x768) ![0, 0] ![768, 768] inb_S768x768_S768x768_0_0).toLoadRect (harg5.unread x3) = x3 := (View.readAt_full _ _ _).trans hf3
  have e4 : View.readAt (Elt F) arg6.view (Rect.unit (s := S1x768) ![0, 0] ![1, 768] inb_S1x768_S1x768_0_0).toLoadRect (harg6.unread x4) = x4 := (View.readAt_full _ _ _).trans hf4
  have e5 : ∀ y : S1x1.Idx, x0 y = x0 ix00 := fun y => congrArg x0 (funext fun a => Fin.ext (by have := (y a).isLt; fin_cases a <;> simp at this ⊢ <;> omega))
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    sl_unfold_words; exact (View.read_writes_cons_put _ _ _ _ _ rfl).trans (by simp only [View.writes_nil, hf10, hf11, e0, e1, e2, e3, e4]; rw [e5])
  iexists _; isplitr; swap; · iexact H11
  ipureintro
  sl_unfold_words; exact (View.read_writes_cons_put _ _ _ _ _ rfl).trans (by simp only [View.writes_nil, hf10, hf11, e0, e1, e2, e3, e4]; rw [e5])

set_option maxHeartbeats 1000000 in
/-- A point of the second phase: the body leaves the inputs and both scratches as they were, and stores the masked similarities, the
    counts and the positive similarities of its 256 rows. -/
theorem runB (c : Dev nD) (i : grid0.Coords) (arg2 : Memref sig .tc .smem S1x1 .f32) (harg2 : arg2.IsWhole) (arg3 : Memref sig .tc .vmem S256x8x768 .f32) (harg3 : arg3.IsWhole) (arg4 : Memref sig .tc .vmem S1x768 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S256x4096 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S4096x768 .bf16) (harg10 : arg10.IsWhole) (arg11 : Memref sig .tc .vmem S768x4096 .bf16) (harg11 : arg11.IsWhole)
    (hc0 : ¬ k0_cond1 i = 1#1) (hc1 : k0_cond2 i = 1#1) (x0 : Vec F S1x1 .f32) (x1 : Vec F S256x8x768 .f32) (x2 : Vec F S1x768 .f32) (x3 : Vec F S768x768 .bf16) (x4 : Vec F S1x768 .f32)
    (d7 : Vec F S256x4096 .bf16) (d8 d9 : Vec F S256x128 .f32) (d10 : Vec F S4096x768 .bf16) (d11 : Vec F S768x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (negW (BitVec.ofNat 32 (i 1).val) (rowsOf i d10 hc1) d11) ∗ owns (c : Thread nD τ) arg8 fullShare (cntW (BitVec.ofNat 32 (i 1).val) (rowsOf i d10 hc1) d11) ∗ owns (c : Thread nD τ) arg9 fullShare (k0_pay6 (rowsOf i d10 hc1) (pairsOf i d10 hc1)) ∗ owns (c : Thread nD τ) arg10 fullShare d10 ∗ owns (c : Thread nD τ) arg11 fullShare d11) -∗ K ⟨⟩))
    ⊢ wp frame (wpE (defs₀ (F := F)) Variants.none c none) E (cc0_tactus_pose i arg2 harg2 arg3 harg3 arg4 harg4 arg5 harg5 arg6 harg6 arg7 harg7 arg8 harg8 arg9 harg9 arg10 harg10 arg11 harg11) K := by
  simp only [cc0_tactus_pose_eq_skeleton]; unfold cc0_tactus_pose_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf7; obtain rfl := harg8.eq_unread hf8; obtain rfl := harg9.eq_unread hf9; obtain rfl := harg10.eq_unread hf10; obtain rfl := harg11.eq_unread hf11
  sl_exec (disch := first | sl_exact hc0 | sl_exact hc1)
  sl_step
  have e3 : View.readAt (Elt F) arg10.view (Rect.unit (s := S4096x768) (k0_off3 i) S256x768.size (k0_off3_inb i hc1)).toLoadRect (harg10.unread d10)
      = VecWindow.window d10 (k0_off3 i) S256x768.size (k0_off3_inb i hc1) := (View.readAt_unit _ _ _ rfl (k0_off3_inb i hc1)).trans (by rw [hf10])
  have e4 : View.readAt (Elt F) arg10.view (Rect.unit (s := S4096x768) (k0_off4 i) S256x768.size (k0_off4_inb i hc1)).toLoadRect (harg10.unread d10)
      = VecWindow.window d10 (k0_off4 i) S256x768.size (k0_off4_inb i hc1) := (View.readAt_unit _ _ _ rfl (k0_off4_inb i hc1)).trans (by rw [hf10])
  have e5 : View.readAt (Elt F) arg11.view (Rect.unit (s := S768x4096) ![0, 0] S768x4096.size inb_S768x4096_S768x4096_0_0).toLoadRect (harg11.unread d11)
      = d11 := (View.readAt_full _ _ _).trans hf11
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    exact (View.read_writes_full _ _ _ _ _).trans (congrArg₂ (negW (BitVec.ofNat 32 (i 1).val)) e3 e5)
  isplitl [H8]
  · iexists _; isplitr; swap; · iexact H8
    ipureintro
    exact (View.read_writes_full _ _ _ _ _).trans (congrArg₂ (cntW (BitVec.ofNat 32 (i 1).val)) e3 e5)
  isplitl [H9]
  · iexists _; isplitr; swap; · iexact H9
    ipureintro
    exact (View.read_writes_full _ _ _ _ _).trans (congrArg₂ k0_pay6 e3 e4)
  isplitl [H10]
  · iexists _; isplitr; swap; · iexact H10
    ipureintro
    exact harg10.read_unread _
  iexists _; isplitr; swap; · iexact H11
  ipureintro
  exact harg11.read_unread _

end Cert.KernelIdeal.Hand

end
-- ==== Proof.Run.lean ====
/-
  The launch: what the two scratch buffers hold before each grid point, the body's obligation at every point, the run, and what the
  output arrays hold at the end.
-/
module

public import proofs.«01_k».proof.Proof.Body
public import proofs.«01_k».proof.Proof.Gen.KernelIdeal.Frame
public import Idealize.ShloMosaic.Lib.Pipeline.DatRel
public import Idealize.ShloMosaic.Lib.Pipeline.ArrRel
public import Idealize.ShloMosaic.Lib.Pipeline.ValueKit
public import Idealize.ShloMosaic.Lib.Claim
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid: conditions and offsets in closed form -/

/-- The first coordinate of a grid point is 0 before point 16 and 1 from there on. -/
theorem coord0 (t : Fin cfg0.N) : (grid0.coords t 0).val = t.val / 16 % 2 := Pipeline.Grid.coords_val t 0 (by decide) rfl

/-- The second coordinate of a grid point is the point modulo 16. -/
theorem coord1 (t : Fin cfg0.N) : (grid0.coords t 1).val = t.val / 1 % 16 := Pipeline.Grid.coords_val t 1 (by decide) rfl

theorem t_lt (t : Fin cfg0.N) : t.val < 32 := Nat.lt_of_lt_of_eq t.isLt N_0

/-- The first phase is the points before 16. -/
theorem cond1_iff : ∀ t : Fin cfg0.N, k0_cond1 (grid0.coords t) = 1#1 ↔ t.val < 16 :=
  (fun t => by
    have ht := t_lt t
    have e0 := coord0 t
    have e1 := coord1 t
    simp only [k0_cond1, e0, e1]
    word_cmp : ∀ t : Fin grid0.N, k0_cond1 (grid0.coords t) = 1#1 ↔ t.val < 16)

/-- The second phase is the points from 16 on. -/
theorem cond2_iff : ∀ t : Fin cfg0.N, k0_cond2 (grid0.coords t) = 1#1 ↔ 16 ≤ t.val :=
  (fun t => by
    have ht := t_lt t
    have e0 := coord0 t
    have e1 := coord1 t
    simp only [k0_cond2, e0, e1]
    word_cmp : ∀ t : Fin grid0.N, k0_cond2 (grid0.coords t) = 1#1 ↔ 16 ≤ t.val)

/-- The rows that a point of the first phase writes start at 256 times its second coordinate. -/
theorem off1_eq (i : grid0.Coords) : k0_off1 i = ![256 * (i 1).val, 0] := by
  have h : (i 1).val < 16 := (i 1).isLt
  generalize hn : (i 1).val = n at h
  simp only [k0_off1, hn]
  interval_cases n <;> rfl

/-- So do the columns of the transpose. -/
theorem off2_eq (i : grid0.Coords) : k0_off2 i = ![0, 256 * (i 1).val] := by
  have h : (i 1).val < 16 := (i 1).isLt
  generalize hn : (i 1).val = n at h
  simp only [k0_off2, hn]
  interval_cases n <;> rfl

/-- So do the rows that a point of the second phase reads. -/
theorem off3_eq (i : grid0.Coords) : k0_off3 i = ![256 * (i 1).val, 0] := by
  have h : (i 1).val < 16 := (i 1).isLt
  generalize hn : (i 1).val = n at h
  simp only [k0_off3, hn]
  interval_cases n <;> rfl

/-- The rows of the other view lie 2048 further, modulo 4096. -/
theorem off4_eq (i : grid0.Coords) : k0_off4 i = ![256 * (((i 1).val + 8) % 16), 0] := by
  have h : (i 1).val < 16 := (i 1).isLt
  generalize hn : (i 1).val = n at h
  simp only [k0_off4, hn]
  interval_cases n <;> rfl

/-! ## What the phases compute -/

/-- The pooled rows of point `t`. -/
def poolB (c : Dev nD) (t : Fin cfg0.N) : Vec F S256x768 .f32 := k0_pay7 (iblk m c 1 t) (iblk m c 2 t) (iblk m c 0 t ix00)

/-- The 256 normalised rows that point `t` of the first phase puts into the first scratch. -/
def fB (c : Dev nD) (t : Fin cfg0.N) : Vec F S256x768 .bf16 := k0_pay2 (poolB m c t) (iblk m c 3 t) (iblk m c 4 t)

/-- Their transpose, as it puts it into the second scratch. -/
def ftB (c : Dev nD) (t : Fin cfg0.N) : Vec F S768x256 .bf16 := k0_pay3 (poolB m c t) (iblk m c 3 t) (iblk m c 4 t)

/-- The point of the first phase that computes row `n`. -/
def rowPt (n : Fin 4096) : Fin cfg0.N := ⟨n.val / 256, by have := n.isLt; show _ < grid0.N; rw [N_0]; omega⟩

/-- The first scratch after the first phase: the normalised rows of all tables. -/
def fFull (c : Dev nD) : Vec F S4096x768 .bf16 := fun j =>
  fB m c (rowPt (j 0)) (Shape.pair (d := ![256, 768]) ⟨(j 0).val % 256, Nat.mod_lt _ (by decide)⟩ (j 1))

/-- The second scratch after the first phase: their transpose. -/
def ftFull (c : Dev nD) : Vec F S768x4096 .bf16 := fun j =>
  ftB m c (rowPt (j 1)) (Shape.pair (d := ![768, 256]) (j 0) ⟨(j 1).val % 256, Nat.mod_lt _ (by decide)⟩)

/-- Before point `n` the scratch buffers hold the first `256 * n` rows and columns. -/
def Known (c : Dev nD) (n : ℕ) (d0 : Vec F S4096x768 .bf16) (d1 : Vec F S768x4096 .bf16) : Prop :=
  (∀ j : S4096x768.Idx, (j 0).val < 256 * n → d0 j = fFull m c j) ∧ (∀ j : S768x4096.Idx, (j 1).val < 256 * n → d1 j = ftFull m c j)

theorem known_zero (c : Dev nD) (d0 : Vec F S4096x768 .bf16) (d1 : Vec F S768x4096 .bf16) : Known m c 0 d0 d1 :=
  ⟨fun _ h => absurd h (by omega), fun _ h => absurd h (by omega)⟩

/-- From point 16 on the whole of both is known. -/
theorem known_full (c : Dev nD) {n : ℕ} (hn : 16 ≤ n) {d0 : Vec F S4096x768 .bf16} {d1 : Vec F S768x4096 .bf16} (h : Known m c n d0 d1) :
    d0 = fFull m c ∧ d1 = ftFull m c :=
  ⟨funext fun j => h.1 j (by have : (j 0).val < 4096 := (j 0).isLt; omega), funext fun j => h.2 j (by have : (j 1).val < 4096 := (j 1).isLt; omega)⟩

/-- A point of the first phase makes its own rows and columns known, and keeps the earlier ones. -/
theorem known_step (c : Dev nD) (t : Fin cfg0.N) (ht : t.val < 16) {d0 : Vec F S4096x768 .bf16} {d1 : Vec F S768x4096 .bf16} (h : Known m c t.val d0 d1) :
    Known m c (t.val + 1) (VecWindow.put d0 (k0_off1 (grid0.coords t)) S256x768.size (fB m c t))
      (VecWindow.put d1 (k0_off2 (grid0.coords t)) S768x256.size (ftB m c t)) := by
  have e1 : (grid0.coords t 1).val = t.val := by rw [coord1]; omega
  constructor
  · intro j hj
    rw [off1_eq, e1]
    unfold VecWindow.put
    split
    · rename_i hin
      have h0 := hin 0
      simp only [Matrix.cons_val_zero] at h0
      have hp : rowPt (j 0) = t := Fin.ext (by show (j 0).val / 256 = t.val; omega)
      unfold fFull
      rw [hp]
      refine congrArg (fB m c t) (funext fun a => Fin.ext ?_)
      rw [Rect.unitLocal_val]
      fin_cases a
      · show (j 0).val - 256 * t.val = (j 0).val % 256
        have h1 : (j 0).val < 256 * t.val + 256 := h0.2
        have h2 : 256 * t.val ≤ (j 0).val := h0.1
        omega
      · rfl
    · rename_i hout
      refine h.1 j ?_
      by_contra hlt
      refine hout fun a => ?_
      fin_cases a
      · show 256 * t.val ≤ (j 0).val ∧ (j 0).val < 256 * t.val + 256
        omega
      · show 0 ≤ (j 1).val ∧ (j 1).val < 0 + 768
        have : (j 1).val < 768 := (j 1).isLt
        omega
  · intro j hj
    rw [off2_eq, e1]
    unfold VecWindow.put
    split
    · rename_i hin
      have h0 := hin 1
      have h1 : (j 1).val < 256 * t.val + 256 := h0.2
      have h2 : 256 * t.val ≤ (j 1).val := h0.1
      have hp : rowPt (j 1) = t := Fin.ext (by show (j 1).val / 256 = t.val; omega)
      unfold ftFull
      rw [hp]
      refine congrArg (ftB m c t) (funext fun a => Fin.ext ?_)
      rw [Rect.unitLocal_val]
      fin_cases a
      · rfl
      · show (j 1).val - 256 * t.val = (j 1).val % 256
        omega
    · rename_i hout
      refine h.2 j ?_
      by_contra hlt
      refine hout fun a => ?_
      fin_cases a
      · show 0 ≤ (j 0).val ∧ (j 0).val < 0 + 768
        have : (j 0).val < 768 := (j 0).isLt
        omega
      · show 256 * t.val ≤ (j 1).val ∧ (j 1).val < 256 * t.val + 256
        omega

/-! ## The proof data -/

abbrev ms0 (t : Fin cfg0.N) : Memref sig .tc .smem S1x1 .f32 := win0_0.stage (cfg0.slots t 0)
abbrev ms1 (t : Fin cfg0.N) : Memref sig .tc .vmem S256x8x768 .f32 := win0_1.stage (cfg0.slots t 1)
abbrev ms2 (t : Fin cfg0.N) : Memref sig .tc .vmem S1x768 .f32 := win0_2.stage (cfg0.slots t 2)
abbrev ms3 (t : Fin cfg0.N) : Memref sig .tc .vmem S768x768 .bf16 := win0_3.stage (cfg0.slots t 3)
abbrev ms4 (t : Fin cfg0.N) : Memref sig .tc .vmem S1x768 .f32 := win0_4.stage (cfg0.slots t 4)
abbrev ms5 (t : Fin cfg0.N) : Memref sig .tc .vmem S256x4096 .bf16 := win0_5.stage (cfg0.slots t 5)
abbrev ms6 (t : Fin cfg0.N) : Memref sig .tc .vmem S256x128 .f32 := win0_6.stage (cfg0.slots t 6)
abbrev ms7 (t : Fin cfg0.N) : Memref sig .tc .vmem S256x128 .f32 := win0_7.stage (cfg0.slots t 7)
abbrev sc0 : Memref sig .tc .vmem S4096x768 .bf16 := Memref.whole cc0_scratch0
abbrev sc1 : Memref sig .tc .vmem S768x4096 .bf16 := Memref.whole cc0_scratch1

/-- The invariant at point `n`: the two scratch buffers, at contents known so far, and the generator register. -/
def Inv (c : Dev nD) (n : ℕ) : sProp 𝕄 :=
  iprop((∃ d0 d1, ⌜Known m c n d0 d1⌝ ∗ owns (c : Thread nD τ) sc0 fullShare d0 ∗ owns (c : Thread nD τ) sc1 fullShare d1) ∗ (∃ r, prngReg c r))

/-- The output windows, held to a predicate rather than named. -/
def outW : Fin 8 → Bool := fun w => w.val == 5 || w.val == 6 || w.val == 7

/-- The proof data: inputs stay at their blocks; the outputs are said by `Left`. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ n := Inv m c n.val
  q _ := fullShare
  owed _ := 0

/-- What a point of the second phase leaves in the output windows; nothing is said of the first phase. -/
def Left (c : Dev nD) (w : Fin 8) (t : Fin cfg0.N) : ((cfg0.win w).block.Idx → Elt F (cfg0.win w).elt) → Prop :=
  match w with
  | ⟨5, _⟩ => fun X => ∀ h : k0_cond2 (grid0.coords t) = 1#1,
      X = negW (BitVec.ofNat 32 (grid0.coords t 1).val) (rowsOf (grid0.coords t) (fFull m c) h) (ftFull m c)
  | ⟨6, _⟩ => fun X => ∀ h : k0_cond2 (grid0.coords t) = 1#1,
      X = cntW (BitVec.ofNat 32 (grid0.coords t 1).val) (rowsOf (grid0.coords t) (fFull m c) h) (ftFull m c)
  | ⟨7, _⟩ => fun X => ∀ h : k0_cond2 (grid0.coords t) = 1#1,
      X = k0_pay6 (rowsOf (grid0.coords t) (fFull m c) h) (pairsOf (grid0.coords t) (fFull m c) h)
  | _ => fun _ => True

theorem A_eq (c : Dev nD) (w : Fin cfg0.W) : (dat m c).A w = V m c (Pipeline.arrRef spec0 w) := by dsimp only [dat]
theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]
theorem before0 (c : Dev nD) (t : Fin cfg0.N) (d) : (dat m c).before 0 t d = iblk m c 0 t := before0_0_of m (dat m c) (A_eq m c 0) (after0 m c) t d
theorem before1 (c : Dev nD) (t : Fin cfg0.N) (d) : (dat m c).before 1 t d = iblk m c 1 t := before0_1_of m (dat m c) (A_eq m c 1) (after1 m c) t d
theorem before2 (c : Dev nD) (t : Fin cfg0.N) (d) : (dat m c).before 2 t d = iblk m c 2 t := before0_2_of m (dat m c) (A_eq m c 2) (after2 m c) t d
theorem before3 (c : Dev nD) (t : Fin cfg0.N) (d) : (dat m c).before 3 t d = iblk m c 3 t := before0_3_of m (dat m c) (A_eq m c 3) (after3 m c) t d
theorem before4 (c : Dev nD) (t : Fin cfg0.N) (d) : (dat m c).before 4 t d = iblk m c 4 t := before0_4_of m (dat m c) (A_eq m c 4) (after4 m c) t d

/-! ## The body obligation -/

/-- What the body is called with at point `t`, -/
def pre (c : Dev nD) (t : Fin cfg0.N) : sProp 𝕄 :=
  iprop(Inv m c t.val ∗ (dat m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ (∃ d, owns (c : Thread nD τ) (ms5 t) fullShare d)
    ∗ (∃ d, owns (c : Thread nD τ) (ms6 t) fullShare d)
    ∗ (∃ d, owns (c : Thread nD τ) (ms7 t) fullShare d))

/-- and what it returns. -/
def post (c : Dev nD) (t : Fin cfg0.N) : sProp 𝕄 :=
  iprop(Inv m c (t.val + 1) ∗ (dat m c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ (∃ X, ⌜Left m c 5 t X⌝ ∗ owns (c : Thread nD τ) (ms5 t) fullShare X)
    ∗ (∃ X, ⌜Left m c 6 t X⌝ ∗ owns (c : Thread nD τ) (ms6 t) fullShare X)
    ∗ (∃ X, ⌜Left m c 7 t X⌝ ∗ owns (c : Thread nD τ) (ms7 t) fullShare X))

set_option maxHeartbeats 1600000 in
/-- The body at any point, from `pre` to `post`. -/
theorem sound (c : Dev nD) (t : Fin cfg0.N) :
    pre m c t ⊢ wp frame (wpE (defs₀ (F := F)) Variants.none c none) Set.univ (bodyAt0 t) (fun _ => post m c t) := by
  unfold pre post bodyAt0 Inv
  rw [show (dat m c).owesAt () t.succ = (dat m c).owesAt () t.castSucc from rfl]
  iintro ⟨⟨⟨%d0, %d1, %hk, HS0, HS1⟩, Hg⟩, Ho, H0, H1, H2, H3, H4, ⟨%d5, H5⟩, ⟨%d6, H6⟩, ⟨%d7, H7⟩⟩
  by_cases h0 : t.val < 16
  · have hc2 : ¬ k0_cond2 (grid0.coords t) = 1#1 := fun h => by have := (cond2_iff t).mp h; omega
    iapply (runA c (grid0.coords t) _ _ _ _ _ _ _ _ _ _ _ _ _ _ _ _ _ _ _ _ ((cond1_iff t).mpr h0) hc2 (iblk m c 0 t) (iblk m c 1 t) (iblk m c 2 t) (iblk m c 3 t) (iblk m c 4 t) d5 d6 d7 d0 d1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · iexists _; iexists _
        isplitr
        · ipureintro; exact known_step m c t h0 hk
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists d5; isplitr
      · ipureintro; exact fun h => absurd h hc2
      iexact H5
    isplitl [H6]
    · iexists d6; isplitr
      · ipureintro; exact fun h => absurd h hc2
      iexact H6
    iexists d7; isplitr
    · ipureintro; exact fun h => absurd h hc2
    iexact H7
  · have hc1 : ¬ k0_cond1 (grid0.coords t) = 1#1 := fun h => h0 ((cond1_iff t).mp h)
    have hc2 : k0_cond2 (grid0.coords t) = 1#1 := (cond2_iff t).mpr (by omega)
    obtain ⟨rfl, rfl⟩ := known_full m c (by omega) hk
    iapply (runB c (grid0.coords t) _ _ _ _ _ _ _ _ _ _ _ _ _ _ _ _ _ _ _ _ hc1 hc2 (iblk m c 0 t) (iblk m c 1 t) (iblk m c 2 t) (iblk m c 3 t) (iblk m c 4 t) d5 d6 d7 (fFull m c) (ftFull m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · iexists _; iexists _
        isplitr
        · ipureintro; exact ⟨fun _ _ => rfl, fun _ _ => rfl⟩
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr
      swap; · iexact H5
      ipureintro; exact fun h => rfl
    isplitl [H6]
    · iexists _; isplitr
      swap; · iexact H6
      ipureintro; exact fun h => rfl
    iexists _; isplitr
    swap; · iexact H7
    ipureintro; exact fun h => rfl

theorem row (t : Fin cfg0.N) : defs₀ (F := F) .tc cfg0.body (cfg0.bodyArgs t (cfg0.slots t)) = bodyAt0 t := by
  unfold defs₀; rw [Defs.onTc_tc]

/-- The body's triple with the buffers as the library's obligation states them. -/
theorem sound_lib (c : Dev nD) (t : Fin cfg0.N) :
    iprop((dat m c).Φ t.castSucc ∗ (dat m c).owesAt () t.castSucc
      ∗ (∃ d, owns (c : Thread nD τ) (ms0 t) fullShare ((dat m c).before 0 t d))
      ∗ (∃ d, owns (c : Thread nD τ) (ms1 t) fullShare ((dat m c).before 1 t d))
      ∗ (∃ d, owns (c : Thread nD τ) (ms2 t) fullShare ((dat m c).before 2 t d))
      ∗ (∃ d, owns (c : Thread nD τ) (ms3 t) fullShare ((dat m c).before 3 t d))
      ∗ (∃ d, owns (c : Thread nD τ) (ms4 t) fullShare ((dat m c).before 4 t d))
      ∗ (∃ Y, ⌜((dat m c).toRRel outW (Left m c)).Finds 5 t Y⌝ ∗ owns (c : Thread nD τ) (ms5 t) fullShare Y)
      ∗ (∃ Y, ⌜((dat m c).toRRel outW (Left m c)).Finds 6 t Y⌝ ∗ owns (c : Thread nD τ) (ms6 t) fullShare Y)
      ∗ (∃ Y, ⌜((dat m c).toRRel outW (Left m c)).Finds 7 t Y⌝ ∗ owns (c : Thread nD τ) (ms7 t) fullShare Y))
    ⊢ wp frame (wpE (defs₀ (F := F)) Variants.none c none) Set.univ (bodyAt0 t) (fun _ =>
      iprop((dat m c).Φ t.succ ∗ (dat m c).owesAt () t.succ
      ∗ owns (c : Thread nD τ) (ms0 t) fullShare ((dat m c).after 0 t)
      ∗ owns (c : Thread nD τ) (ms1 t) fullShare ((dat m c).after 1 t)
      ∗ owns (c : Thread nD τ) (ms2 t) fullShare ((dat m c).after 2 t)
      ∗ owns (c : Thread nD τ) (ms3 t) fullShare ((dat m c).after 3 t)
      ∗ owns (c : Thread nD τ) (ms4 t) fullShare ((dat m c).after 4 t)
      ∗ (∃ X, ⌜Left m c 5 t X⌝ ∗ owns (c : Thread nD τ) (ms5 t) fullShare X)
      ∗ (∃ X, ⌜Left m c 6 t X⌝ ∗ owns (c : Thread nD τ) (ms6 t) fullShare X)
      ∗ (∃ X, ⌜Left m c 7 t X⌝ ∗ owns (c : Thread nD τ) (ms7 t) fullShare X))) := by
  refine BIBase.Entails.trans (Q := pre m c t) ?_ ?_
  · unfold pre
    simp only [before0, before1, before2, before3, before4]
    rw [show (dat m c).Φ t.castSucc = Inv m c t.val from rfl]
    iintro ⟨HI, Ho, ⟨%_, H0⟩, ⟨%_, H1⟩, ⟨%_, H2⟩, ⟨%_, H3⟩, ⟨%_, H4⟩, ⟨%Y5, %_, H5⟩, ⟨%Y6, %_, H6⟩, ⟨%Y7, %_, H7⟩⟩
    isplitl [HI]; · iexact HI
    isplitl [Ho]; · iexact Ho
    isplitl [H0]; · iexact H0
    isplitl [H1]; · iexact H1
    isplitl [H2]; · iexact H2
    isplitl [H3]; · iexact H3
    isplitl [H4]; · iexact H4
    isplitl [H5]; · iexists Y5; iexact H5
    isplitl [H6]; · iexists Y6; iexact H6
    iexists Y7; iexact H7
  · rw [after0, after1, after2, after3, after4, show (dat m c).Φ t.succ = Inv m c (t.val + 1) from rfl]
    exact sound m c t

/-- The library's body obligation at every point. -/
theorem body_ok (c : Dev nD) : BodyObligationRel (dat m c) (defs₀ (F := F)) Variants.none () Set.univ outW (Left m c) := fun t => by
  rw [bigSep_W0, bigSep_W0, row]
  exact triple_restated (sound_lib m c t) rfl .rfl fun _ => .rfl

/-! ## The run -/

theorem inv_in (c : Dev nD) : (Pipeline.ΦA spec0 c : sProp 𝕄) ⊢ Inv m c 0 := by
  have e : (Pipeline.ΦA spec0 c : sProp 𝕄) = iprop(iprop((∃ d, owns (c : Thread nD τ) sc0 fullShare d) ∗ (∃ d, owns (c : Thread nD τ) sc1 fullShare d)) ∗ (∃ r, prngReg c r)) := by
    unfold Pipeline.ΦA; rw [scopedRest0_eq]; simp only [sc0, sc1, owns_whole]; try rfl
  rw [e]; unfold Inv
  iintro ⟨⟨⟨%d0, H0⟩, ⟨%d1, H1⟩⟩, Hg⟩
  isplitl [H0 H1]
  · iexists d0; iexists d1
    isplitr
    · ipureintro; exact known_zero m c d0 d1
    isplitl [H0]; · iexact H0
    iexact H1
  iexact Hg

theorem inv_out (c : Dev nD) (n : ℕ) : Inv m c n ⊢ (Pipeline.ΦA spec0 c : sProp 𝕄) := by
  have e : (Pipeline.ΦA spec0 c : sProp 𝕄) = iprop(iprop((∃ d, owns (c : Thread nD τ) sc0 fullShare d) ∗ (∃ d, owns (c : Thread nD τ) sc1 fullShare d)) ∗ (∃ r, prngReg c r)) := by
    unfold Pipeline.ΦA; rw [scopedRest0_eq]; simp only [sc0, sc1, owns_whole]; try rfl
  rw [e]; unfold Inv
  iintro ⟨⟨%d0, %d1, %_, H0, H1⟩, Hg⟩
  isplitl [H0 H1]
  · isplitl [H0]
    · iexists d0; iexact H0
    iexists d1; iexact H1
  iexact Hg

set_option backward.isDefEq.respectTransparency.types false in
/-- Every execution ends, each array at what the proof data allow, every other buffer as the region found it, every counter at zero. -/
theorem run : θ_run defs (onTc (τ := τ) (main (F := F))) (s₀ m ρ)
    (fun r => Pipeline.RDat.FramePost (cfgs 0) (fun c => (dat m c).toRRel outW (Left m c)) (V m) r ∧ r.2.sem = fun _ => 0) :=
  Pipeline.RDat.θ_run_frame_track (Q' := _) cfgs (0 : Fin 1) launch0 defs₀ Variants.none (fun c => (dat m c).toRRel outW (Left m c)) m ρ main
    (hbody := fun c => (body_ok m c).toRRel) (hshare := fun c => (dat m c).share_full fun _ => rfl) (howed := fun _ _ => rfl)
    (V := V m) (hmain := hmain m Variants.none) (hA := A_eq m) (hin := fun c => inv_in m c) (hout := fun c => inv_out m c _)

/-- The argument arrays end unchanged. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem kept_of {r : PUnit × MemSt nD τ sig (Elt F)} (h : Pipeline.RDat.FramePost (cfgs 0) (fun c => (dat m c).toRRel outW (Left m c)) (V m) r) (c : Dev nD) : Kept m r c :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c)⟩

/-! ## The output arrays -/

/-- The point of the second phase that writes the rows holding row `n`. -/
def outPt (n : Fin 4096) : Fin cfg0.N := ⟨16 + n.val / 256, by have := n.isLt; show _ < grid0.N; rw [N_0]; omega⟩

theorem outPt_cond (n : Fin 4096) : k0_cond2 (grid0.coords (outPt n)) = 1#1 := (cond2_iff _).mpr (by show 16 ≤ 16 + n.val / 256; omega)

/-- The masked similarities, whole. -/
def negFull (c : Dev nD) : Vec F S4096x4096 .bf16 := fun j =>
  negW (BitVec.ofNat 32 (grid0.coords (outPt (j 0)) 1).val) (rowsOf (grid0.coords (outPt (j 0))) (fFull m c) (outPt_cond _)) (ftFull m c)
    (Shape.pair (d := ![256, 4096]) ⟨(j 0).val % 256, Nat.mod_lt _ (by decide)⟩ (j 1))

/-- The counts, whole. -/
def cntFull (c : Dev nD) : Vec F S4096x128 .f32 := fun j =>
  cntW (BitVec.ofNat 32 (grid0.coords (outPt (j 0)) 1).val) (rowsOf (grid0.coords (outPt (j 0))) (fFull m c) (outPt_cond _)) (ftFull m c)
    (Shape.pair (d := ![256, 128]) ⟨(j 0).val % 256, Nat.mod_lt _ (by decide)⟩ (j 1))

/-- The similarities of the positive pairs, whole. -/
def posFull (c : Dev nD) : Vec F S4096x128 .f32 := fun j =>
  k0_pay6 (rowsOf (grid0.coords (outPt (j 0))) (fFull m c) (outPt_cond _)) (pairsOf (grid0.coords (outPt (j 0))) (fFull m c) (outPt_cond _))
    (Shape.pair (d := ![256, 128]) ⟨(j 0).val % 256, Nat.mod_lt _ (by decide)⟩ (j 1))

/-- The coordinates of the three output windows' block at the point that writes row `n`, and their flushes. -/
theorem flush5 : ∀ t : Fin cfg0.N, (cfg0.win 5).flush t = true → 16 ≤ t.val := by decide +kernel
theorem flush6 : ∀ t : Fin cfg0.N, (cfg0.win 6).flush t = true → 16 ≤ t.val := by decide +kernel
theorem flush7 : ∀ t : Fin cfg0.N, (cfg0.win 7).flush t = true → 16 ≤ t.val := by decide +kernel

/-- A family over the points of the second phase, at two equal points. -/
theorem at_point {α : Type} (Q : (t : Fin cfg0.N) → k0_cond2 (grid0.coords t) = 1#1 → α) {t t' : Fin cfg0.N} (e : t = t')
    (h : k0_cond2 (grid0.coords t) = 1#1) (h' : k0_cond2 (grid0.coords t') = 1#1) : Q t h = Q t' h' := by subst e; rfl

theorem index5 : ∀ t : Fin cfg0.N, 16 ≤ t.val → win0_5.index t 0 = t.val - 16 := by decide +kernel
theorem index6 : ∀ t : Fin cfg0.N, 16 ≤ t.val → win0_6.index t 0 = t.val - 16 := by decide +kernel
theorem index7 : ∀ t : Fin cfg0.N, 16 ≤ t.val → win0_7.index t 0 = t.val - 16 := by decide +kernel

/-- At the end the first output array holds the masked similarities. -/
theorem arr5 (c : Dev nD) {r : PUnit × MemSt nD τ sig (Elt F)}
    (h : Pipeline.RDat.FramePost (cfgs 0) (fun c => (dat m c).toRRel outW (Left m c)) (V m) r) :
    r.2.mem ((c.tc : Thread nD τ).loc main_v6_0) = negFull m c := by
  obtain ⟨after, hL, hA⟩ := h.exists_exact c
  refine (hA 5).trans ?_
  refine Dat.arrAt_eq_of_covers (cfg := cfg0) (((dat m c).toRRel outW (Left m c)).withAfter after) (5 : Fin 8) (negFull m c) (by decide +kernel) fun t hf y => ?_
  have ht : 16 ≤ t.val := flush5 t hf
  have ht' := t_lt t
  have hl : Left m c 5 t (after 5 t) := (dat m c).toRRel_leaves (w := 5) rfl (hL 5 t hf)
  have hl' := hl ((cond2_iff t).mpr ht)
  have i0 : win0_5.index t 0 = t.val - 16 := index5 t ht
  have e0 : ((win0_5.blk t).view.emb y 0 : Nat) = (t.val - 16) * 256 + (y 0 : Nat) := by
    rw [← i0]; exact win0_5.rect_emb_val t y 0
  have e1 : ((win0_5.blk t).view.emb y 1 : Nat) = (y 1 : Nat) := by
    have := win0_5.rect_emb_val t y 1
    have z : win0_5.index t 1 = 0 := rfl
    rw [z] at this
    exact this.trans (by omega)
  blk_simp
  show after 5 t y = _
  have hy : (y 0 : Nat) < 256 := (y 0).isLt
  have hp : outPt ((win0_5.blk t).view.emb y 0) = t := Fin.ext (by
    show 16 + ((win0_5.blk t).view.emb y 0 : Nat) / 256 = t.val
    rw [e0]; omega)
  rw [hl']
  unfold negFull
  refine Eq.trans (congrArg _ (funext fun a => Fin.ext ?_)) (congrFun (at_point (fun t' h' => negW (BitVec.ofNat 32 (grid0.coords t' 1).val) (rowsOf (grid0.coords t') (fFull m c) h') (ftFull m c)) hp.symm _ _) _)
  fin_cases a
  · show (y 0 : Nat) = ((win0_5.blk t).view.emb y 0 : Nat) % 256
    rw [e0]; omega
  · exact e1.symm

/-- The second holds the counts. -/
theorem arr6 (c : Dev nD) {r : PUnit × MemSt nD τ sig (Elt F)}
    (h : Pipeline.RDat.FramePost (cfgs 0) (fun c => (dat m c).toRRel outW (Left m c)) (V m) r) :
    r.2.mem ((c.tc : Thread nD τ).loc main_v6_1) = cntFull m c := by
  obtain ⟨after, hL, hA⟩ := h.exists_exact c
  refine (hA 6).trans ?_
  refine Dat.arrAt_eq_of_covers (cfg := cfg0) (((dat m c).toRRel outW (Left m c)).withAfter after) (6 : Fin 8) (cntFull m c) (by decide +kernel) fun t hf y => ?_
  have ht : 16 ≤ t.val := flush6 t hf
  have ht' := t_lt t
  have hl : Left m c 6 t (after 6 t) := (dat m c).toRRel_leaves (w := 6) rfl (hL 6 t hf)
  have hl' := hl ((cond2_iff t).mpr ht)
  have i0 : win0_6.index t 0 = t.val - 16 := index6 t ht
  have e0 : ((win0_6.blk t).view.emb y 0 : Nat) = (t.val - 16) * 256 + (y 0 : Nat) := by
    rw [← i0]; exact win0_6.rect_emb_val t y 0
  have e1 : ((win0_6.blk t).view.emb y 1 : Nat) = (y 1 : Nat) := by
    have := win0_6.rect_emb_val t y 1
    have z : win0_6.index t 1 = 0 := rfl
    rw [z] at this
    exact this.trans (by omega)
  blk_simp
  show after 6 t y = _
  have hy : (y 0 : Nat) < 256 := (y 0).isLt
  have hp : outPt ((win0_6.blk t).view.emb y 0) = t := Fin.ext (by
    show 16 + ((win0_6.blk t).view.emb y 0 : Nat) / 256 = t.val
    rw [e0]; omega)
  rw [hl']
  unfold cntFull
  refine Eq.trans (congrArg _ (funext fun a => Fin.ext ?_)) (congrFun (at_point (fun t' h' => cntW (BitVec.ofNat 32 (grid0.coords t' 1).val) (rowsOf (grid0.coords t') (fFull m c) h') (ftFull m c)) hp.symm _ _) _)
  fin_cases a
  · show (y 0 : Nat) = ((win0_6.blk t).view.emb y 0 : Nat) % 256
    rw [e0]; omega
  · exact e1.symm

/-- The third holds the similarities of the positive pairs. -/
theorem arr7 (c : Dev nD) {r : PUnit × MemSt nD τ sig (Elt F)}
    (h : Pipeline.RDat.FramePost (cfgs 0) (fun c => (dat m c).toRRel outW (Left m c)) (V m) r) :
    r.2.mem ((c.tc : Thread nD τ).loc main_v6_2) = posFull m c := by
  obtain ⟨after, hL, hA⟩ := h.exists_exact c
  refine (hA 7).trans ?_
  refine Dat.arrAt_eq_of_covers (cfg := cfg0) (((dat m c).toRRel outW (Left m c)).withAfter after) (7 : Fin 8) (posFull m c) (by decide +kernel) fun t hf y => ?_
  have ht : 16 ≤ t.val := flush7 t hf
  have ht' := t_lt t
  have hl : Left m c 7 t (after 7 t) := (dat m c).toRRel_leaves (w := 7) rfl (hL 7 t hf)
  have hl' := hl ((cond2_iff t).mpr ht)
  have i0 : win0_7.index t 0 = t.val - 16 := index7 t ht
  have e0 : ((win0_7.blk t).view.emb y 0 : Nat) = (t.val - 16) * 256 + (y 0 : Nat) := by
    rw [← i0]; exact win0_7.rect_emb_val t y 0
  have e1 : ((win0_7.blk t).view.emb y 1 : Nat) = (y 1 : Nat) := by
    have := win0_7.rect_emb_val t y 1
    have z : win0_7.index t 1 = 0 := rfl
    rw [z] at this
    exact this.trans (by omega)
  blk_simp
  show after 7 t y = _
  have hy : (y 0 : Nat) < 256 := (y 0).isLt
  have hp : outPt ((win0_7.blk t).view.emb y 0) = t := Fin.ext (by
    show 16 + ((win0_7.blk t).view.emb y 0 : Nat) / 256 = t.val
    rw [e0]; omega)
  rw [hl']
  unfold posFull
  refine Eq.trans (congrArg _ (funext fun a => Fin.ext ?_)) (congrFun (at_point (fun t' h' => k0_pay6 (rowsOf (grid0.coords t') (fFull m c) h') (pairsOf (grid0.coords t') (fFull m c) h')) hp.symm _ _) _)
  fin_cases a
  · show (y 0 : Nat) = ((win0_7.blk t).view.emb y 0 : Nat) % 256
    rw [e0]; omega
  · exact e1.symm

/-- THE LAUNCH: every execution ends with the three output arrays at their closed forms, the arguments unchanged and every counter at zero. -/
theorem values : θ_run defs (onTc (τ := τ) (main (F := F))) ⟨m, fun _ => 0, ρ⟩ (fun r => (∀ c : Dev nD,
      r.2.mem ((c.tc : Thread nD τ).loc main_v6_0) = negFull m c
      ∧ r.2.mem ((c.tc : Thread nD τ).loc main_v6_1) = cntFull m c
      ∧ r.2.mem ((c.tc : Thread nD τ).loc main_v6_2) = posFull m c ∧ Kept m r c) ∧ r.2.sem = fun _ => 0) :=
  (θ_run defs _ _).mono (fun _ h => ⟨fun c => ⟨arr5 m c h.1, arr6 m c h.1, arr7 m c h.1, kept_of m h.1 c⟩, h.2⟩) (run m ρ)

end Cert.KernelIdeal.Hand

end
-- ==== Proof.Pay.lean ====
module

public import proofs.«01_k».proof.Proof.Gen.KernelIdeal.Skeleton
public import proofs.«01_k».proof.Proof.Spec

/-!
  What each of the kernel body's computations is at an index, over the extended reals.
-/

@[expose] public section

noncomputable section

namespace Cert.KernelIdeal.Hand

open Idealize.ShloMosaic
open Cert.KernelIdeal.Gen
open Cert.Pose

/-- A sum over 2048 columns that keeps only the eight of block `r`, each with the entry of a row of eight that the
    column's place in its block selects, is the sum over the eight. -/
theorem sum_block (r : Fin 256) (e : Fin 8 → EReal) (x : Fin 256 → Fin 8 → EReal) :
    (∑ n : Fin 2048, Scalar.select (IntOp.cmpi .eq (IntOp.shrsi .vector (BitVec.ofNat 32 n.val) 3#32) (BitVec.ofNat 32 r.val))
      ((∑ k : Fin 8, Scalar.select (IntOp.cmpi .eq (IntOp.andi (BitVec.ofNat 32 n.val) 7#32) (BitVec.ofNat 32 k.val)) (e k) 0)
        * x ⟨n.val / 8, by omega⟩ ⟨n.val % 8, Nat.mod_lt _ (by decide)⟩) 0) = ∑ k, e k * x r k := by
  have h1 : ∀ n : Fin 2048, (∑ k : Fin 8, Scalar.select (IntOp.cmpi .eq (IntOp.andi (BitVec.ofNat 32 n.val) 7#32) (BitVec.ofNat 32 k.val)) (e k) 0)
      = e ⟨n.val % 8, Nat.mod_lt _ (by decide)⟩ := fun n => by
    rw [Finset.sum_eq_single (⟨n.val % 8, Nat.mod_lt _ (by decide)⟩ : Fin 8)]
    · rw [and7 _ (by omega), cmpi_eq _ _ (by omega) (by omega), select_ofBool, if_pos rfl]
    · intro k _ hk
      rw [and7 _ (by omega), cmpi_eq _ _ (by omega) (by omega), select_ofBool, if_neg fun h => hk (Fin.ext h.symm)]
    · exact fun h => absurd (Finset.mem_univ _) h
  simp only [h1]
  have h2 : ∀ n : Fin 2048, Scalar.select (IntOp.cmpi .eq (IntOp.shrsi .vector (BitVec.ofNat 32 n.val) 3#32) (BitVec.ofNat 32 r.val))
      (e ⟨n.val % 8, Nat.mod_lt _ (by decide)⟩ * x ⟨n.val / 8, by omega⟩ ⟨n.val % 8, Nat.mod_lt _ (by decide)⟩) 0
      = if n.val / 8 = r.val then e ⟨n.val % 8, Nat.mod_lt _ (by decide)⟩ * x ⟨n.val / 8, by omega⟩ ⟨n.val % 8, Nat.mod_lt _ (by decide)⟩ else 0 := fun n => by
    rw [shr3 _ _ (by omega), cmpi_eq _ _ (by omega) (by omega), select_ofBool]
  simp only [h2]
  rw [← Finset.sum_filter]
  symm
  refine Finset.sum_bij (fun (k : Fin 8) _ => (⟨8 * r.val + k.val, by omega⟩ : Fin 2048)) ?_ ?_ ?_ ?_
  · intro k _
    rw [Finset.mem_filter]
    exact ⟨Finset.mem_univ _, by show (8 * r.val + k.val) / 8 = r.val; omega⟩
  · intro a _ b _ h
    have := congrArg Fin.val h
    exact Fin.ext (by simpa using this)
  · intro n hn
    have h := (Finset.mem_filter.1 hn).2
    exact ⟨⟨n.val % 8, Nat.mod_lt _ (by decide)⟩, Finset.mem_univ _, Fin.ext (by show 8 * r.val + n.val % 8 = n.val; omega)⟩
  · intro k _
    have e1 : (⟨(8 * r.val + k.val) % 8, Nat.mod_lt _ (by decide)⟩ : Fin 8) = k := Fin.ext (by show (8 * r.val + k.val) % 8 = k.val; omega)
    have e2 : (⟨(8 * r.val + k.val) / 8, by omega⟩ : Fin 256) = r := Fin.ext (by show (8 * r.val + k.val) / 8 = r.val; omega)
    show e k * x r k = e ⟨(8 * r.val + k.val) % 8, _⟩ * x ⟨(8 * r.val + k.val) / 8, _⟩ ⟨(8 * r.val + k.val) % 8, _⟩
    rw [e1, e2]

/-- The pooled block at an index: table `r`'s pooled row. -/
theorem pay7_at (x : Vec Ideal S256x8x768 .f32) (q : Vec Ideal S1x768 .f32) (t : Elt Ideal .f32) (r : Fin 256) (d : Fin 768) :
    k0_pay7 (F := Ideal) x q t (ix2 r d) = pooled (fun k e => x (ix3 r k e)) (fun e => q (ix2 0 e)) t d := by
  pointwise [k0_pay7]
  rw [ofBits_neg_inf]
  unfold pooled
  congr 1
  exact sum_block r (fun k => Ideal.exp (score (fun e => x (ix3 r k e)) (fun e => q (ix2 0 e)) t - top (fun k e => x (ix3 r k e)) (fun e => q (ix2 0 e)) t))
    (fun r' k => x (ix3 r' k d))

/-- The normalised block at an index. -/
theorem pay1_at (x : FVec Ideal S256x768 .f32) (w : Vec Ideal S768x768 .bf16) (b : Vec Ideal S1x768 .f32) (r : Fin 256) (d : Fin 768) :
    k0_pay1 (F := Ideal) x w b (ix2 r d) = unit (proj (fun e => x (ix2 r e)) (fun d e => w (ix2 e d)) (fun d => b (ix2 0 d))) d := by
  pointwise [k0_pay1]
  rfl

/-- The block stored is the normalised one. -/
theorem pay2_at (x : FVec Ideal S256x768 .f32) (w : Vec Ideal S768x768 .bf16) (b : Vec Ideal S1x768 .f32) (r : Fin 256) (d : Fin 768) :
    k0_pay2 (F := Ideal) x w b (ix2 r d) = k0_pay1 (F := Ideal) x w b (ix2 r d) := by
  pointwise [k0_pay2]

/-- The product with the identity matrix is the transpose. -/
theorem pay3_at (x : FVec Ideal S256x768 .f32) (w : Vec Ideal S768x768 .bf16) (b : Vec Ideal S1x768 .f32) (r : Fin 256) (d : Fin 768) :
    k0_pay3 (F := Ideal) x w b (ix2 d r) = k0_pay1 (F := Ideal) x w b (ix2 r d) := by
  pointwise [k0_pay3]
  rw [Finset.sum_eq_single r]
  · rw [cmpi_eq _ _ (by omega) (by omega), select_ofBool, if_pos rfl]
  · intro k _ hk
    rw [cmpi_eq _ _ (by omega) (by omega), select_ofBool, if_neg fun h => hk (Fin.ext h)]
  · exact fun h => absurd (Finset.mem_univ _) h

/-- The block of similarities at an index. -/
theorem pay8_at (x : Vec Ideal S256x768 .bf16) (w : Vec Ideal S768x4096 .bf16) (r : Fin 256) (j : Fin 4096) :
    k0_pay8 (F := Ideal) x w (ix2 r j) = ∑ d, x (ix2 r d) * w (ix2 d j) := by
  pointwise [k0_pay8]

open Classical in
/-- The mask at an index, for the block of rows that starts at `256 * n`. -/
theorem pay9_at (n : ℕ) (hn : n < 16) (x : Vec Ideal S256x768 .bf16) (w : Vec Ideal S768x4096 .bf16) (r : Fin 256) (j : Fin 4096) :
    k0_pay9 (F := Ideal) (BitVec.ofNat 32 n) x w (ix2 r j)
      = BitVec.ofBool (decide (¬ Ideal.ofBits .f32 0x3F666666#32 < (∑ d, x (ix2 r d) * w (ix2 d j) : EReal)
          ∧ ¬ (256 * n + r.val) % 2048 = j.val % 2048)) := by
  pointwise [k0_pay9, k0_pay8]
  have e : IntOp.addi (BitVec.ofNat 32 r.val) (Scalar.muli (BitVec.ofNat 32 n) 256#32) = BitVec.ofNat 32 (256 * n + r.val) := by
    apply BitVec.eq_of_toNat_eq
    show (BitVec.ofNat 32 r.val + BitVec.ofNat 32 n * 256#32).toNat = _
    rw [BitVec.toNat_add, BitVec.toNat_mul, BitVec.toNat_ofNat, BitVec.toNat_ofNat, BitVec.toNat_ofNat, BitVec.toNat_ofNat]
    omega
  rw [e, and2047 _ (by omega), and2047 _ (by omega), cmpi_eq _ _ (by omega) (by omega)]
  by_cases h1 : Ideal.ofBits .f32 0x3F666666#32 < (∑ d, x (ix2 r d) * w (ix2 d j) : EReal) <;>
    by_cases h2 : (256 * n + r.val) % 2048 = j.val % 2048 <;> simp [h1, h2, IntOp.andi, IntOp.xori]

/-- The masked block at an index. -/
theorem pay4_at (x : FVec Ideal S256x4096 .f32) (p : IVec S256x4096 1) (r : Fin 256) (j : Fin 4096) :
    k0_pay4 (F := Ideal) x p (ix2 r j) = Scalar.select (p (ix2 r j)) (x (ix2 r j)) (Ideal.ofBits .f32 0xC1200000#32) := by
  pointwise [k0_pay4]

/-- The count at an index. -/
theorem pay5_at (a : BitVec 32) (x : Vec Ideal S256x768 .bf16) (w : Vec Ideal S768x4096 .bf16) (r : Fin 256) (l : Fin 128) :
    k0_pay5 (F := Ideal) (k0_pay10 a x w) (ix2 r l) = ∑ j : Fin 4096, Scalar.select (k0_pay9 (F := Ideal) a x w (ix2 r j)) (1 : EReal) 0 := by
  pointwise [k0_pay10, k0_pay5]

/-- The row products at an index. -/
theorem pay6_at (x y : Vec Ideal S256x768 .bf16) (r : Fin 256) (l : Fin 128) :
    k0_pay6 (F := Ideal) x y (ix2 r l) = ∑ d, x (ix2 r d) * y (ix2 r d) := by
  pointwise [k0_pay6]

end Cert.KernelIdeal.Hand

end
-- ==== Proof.KerVal.lean ====
module

public import proofs.«01_k».proof.Proof.Run
public import proofs.«01_k».proof.Proof.Pay
public import Idealize.ShloMosaic.Lib.Pipeline.ValueKit

/-!
  What the kernel's three result arrays hold at an index, over the extended reals, as the functions of the
  problem's arguments that the specification names.
-/

@[expose] public section

noncomputable section

namespace Cert.KernelIdeal.Hand

open Idealize.ShloMosaic Idealize.ShloMosaic.TcCoe
open Cert.KernelIdeal.Gen
open Cert.Pose

variable (m : (ℓ : Loc nD τ sig) → Buf (Elt Ideal) ℓ)

/-- The first phase's points read their own block of 256 tables. -/
theorem index1 : ∀ t : Fin cfg0.N, t.val < 16 → win0_1.index t 0 = t.val := by decide +kernel

/-- The block of tables at an index. -/
theorem blk1 (c : Dev nD) (t : Fin cfg0.N) (ht : t.val < 16) (r : Fin 256) (k : Fin 8) (d : Fin 768) :
    (iblk m c 1 t : Vec Ideal S256x8x768 .f32) (ix3 r k d)
      = m ((c.tc : Thread nD τ).loc main_arg0) (ix2 ⟨8 * (256 * t.val + r.val) + k.val, by omega⟩ d) := by
  have i0 := index1 t ht
  have e0 : ((win0_1.blk t).view.emb (ix3 r k d) 0 : Nat) = t.val * 256 + r.val := by
    rw [← i0]; exact win0_1.rect_emb_val t (ix3 r k d) 0
  have e1 : ((win0_1.blk t).view.emb (ix3 r k d) 1 : Nat) = k.val := by
    have := win0_1.rect_emb_val t (ix3 r k d) 1
    rw [show win0_1.index t 1 = 0 from rfl] at this
    exact this.trans (by show 0 * 8 + k.val = k.val; omega)
  have e2 : ((win0_1.blk t).view.emb (ix3 r k d) 2 : Nat) = d.val := by
    have := win0_1.rect_emb_val t (ix3 r k d) 2
    rw [show win0_1.index t 2 = 0 from rfl] at this
    exact this.trans (by show 0 * 768 + d.val = d.val; omega)
  blk_simp [iblk]
  entry_read
  pointwise
  refine congrArg (m ((c.tc : Thread nD τ).loc main_arg0)) (funext fun a => Fin.ext ?_)
  match a with
  | ⟨0, _⟩ =>
    show ((win0_1.blk t).view.emb (ix3 r k d) 0 : Nat) * 8 + ((win0_1.blk t).view.emb (ix3 r k d) 1 : Nat) = 8 * (256 * t.val + r.val) + k.val
    rw [e0, e1]; omega
  | ⟨1, _⟩ => exact e2

/-- The query's block at an index. -/
theorem blk2 (c : Dev nD) (t : Fin cfg0.N) (d : Fin 768) :
    (iblk m c 2 t : Vec Ideal S1x768 .f32) (ix2 0 d) = m ((c.tc : Thread nD τ).loc main_arg3) (ix2 d 0) := by
  have e1 : ((win0_2.blk t).view.emb (ix2 0 d) 1 : Nat) = d.val := by
    have := win0_2.rect_emb_val t (ix2 0 d) 1
    rw [show win0_2.index t 1 = 0 from rfl] at this
    exact this.trans (by show 0 * 768 + d.val = d.val; omega)
  blk_simp [iblk]
  entry_read
  pointwise
  refine congrArg (m ((c.tc : Thread nD τ).loc main_arg3)) (funext fun a => Fin.ext ?_)
  match a with
  | ⟨0, _⟩ => exact e1
  | ⟨1, _⟩ => rfl

/-- The temperature's block. -/
theorem blk0 (c : Dev nD) (t : Fin cfg0.N) :
    (iblk m c 0 t : Vec Ideal S1x1 .f32) ix00 = m ((c.tc : Thread nD τ).loc main_arg4) ix0 := by
  blk_simp [iblk]
  entry_read
  pointwise

/-- The projection's block at an index: the matrix transposed. -/
theorem blk3 (c : Dev nD) (t : Fin cfg0.N) (e d : Fin 768) :
    (iblk m c 3 t : Vec Ideal S768x768 .bf16) (ix2 e d) = m ((c.tc : Thread nD τ).loc main_arg5) (ix2 d e) := by
  have e0 : ((win0_3.blk t).view.emb (ix2 e d) 0 : Nat) = e.val := by
    have := win0_3.rect_emb_val t (ix2 e d) 0
    rw [show win0_3.index t 0 = 0 from rfl] at this
    exact this.trans (by show 0 * 768 + e.val = e.val; omega)
  have e1 : ((win0_3.blk t).view.emb (ix2 e d) 1 : Nat) = d.val := by
    have := win0_3.rect_emb_val t (ix2 e d) 1
    rw [show win0_3.index t 1 = 0 from rfl] at this
    exact this.trans (by show 0 * 768 + d.val = d.val; omega)
  blk_simp [iblk]
  entry_read
  pointwise
  refine congrArg (m ((c.tc : Thread nD τ).loc main_arg5)) (funext fun a => Fin.ext ?_)
  match a with
  | ⟨0, _⟩ => exact e1
  | ⟨1, _⟩ => exact e0

/-- The offset's block at an index. -/
theorem blk4 (c : Dev nD) (t : Fin cfg0.N) (d : Fin 768) :
    (iblk m c 4 t : Vec Ideal S1x768 .f32) (ix2 0 d) = m ((c.tc : Thread nD τ).loc main_arg6) (ix1 d) := by
  have e1 : ((win0_4.blk t).view.emb (ix2 0 d) 1 : Nat) = d.val := by
    have := win0_4.rect_emb_val t (ix2 0 d) 1
    rw [show win0_4.index t 1 = 0 from rfl] at this
    exact this.trans (by show 0 * 768 + d.val = d.val; omega)
  blk_simp [iblk]
  entry_read
  pointwise
  refine congrArg (m ((c.tc : Thread nD τ).loc main_arg6)) (funext fun a => Fin.ext ?_)
  match a with
  | ⟨0, _⟩ => exact e1

/-- The feature rows of the arguments that device `c` holds. -/
def featOf (c : Dev nD) : Fin 4096 → Fin 768 → EReal :=
  feat (fun n d => m ((c.tc : Thread nD τ).loc main_arg0) (ix2 n d)) (fun d => m ((c.tc : Thread nD τ).loc main_arg3) (ix2 d 0))
    (m ((c.tc : Thread nD τ).loc main_arg4) ix0) (fun d e => m ((c.tc : Thread nD τ).loc main_arg5) (ix2 d e))
    (fun d => m ((c.tc : Thread nD τ).loc main_arg6) (ix1 d))

theorem unit_proj_congr {p p' : Fin 768 → EReal} {W W' : Fin 768 → Fin 768 → EReal} {b b' : Fin 768 → EReal}
    (hp : p = p') (hW : W = W') (hb : b = b') (d : Fin 768) : unit (proj p W b) d = unit (proj p' W' b') d := by
  subst hp hW hb; rfl

theorem pooled_congr {y y' : Fin 8 → Fin 768 → EReal} {q q' : Fin 768 → EReal} {t t' : EReal}
    (hy : y = y') (hq : q = q') (ht : t = t') (d : Fin 768) : pooled y q t d = pooled y' q' t' d := by
  subst hy hq ht; rfl

/-- The normalised rows of a block at an index. -/
theorem pay1_block (c : Dev nD) (t : Fin cfg0.N) (ht : t.val < 16) (r : Fin 256) (d : Fin 768) :
    k0_pay1 (F := Ideal) (poolB m c t) (iblk m c 3 t) (iblk m c 4 t) (ix2 r d) = featOf m c ⟨256 * t.val + r.val, by omega⟩ d := by
  have h := pay1_at (poolB m c t) (iblk m c 3 t) (iblk m c 4 t) r d
  refine h.trans ?_
  have hp : (fun e => poolB m c t (ix2 r e)) = pooled (fun k e => m ((c.tc : Thread nD τ).loc main_arg0) (ix2 (Cert.Pose.row (⟨256 * t.val + r.val, by omega⟩ : Fin 4096) k) e))
      (fun d => m ((c.tc : Thread nD τ).loc main_arg3) (ix2 d 0)) (m ((c.tc : Thread nD τ).loc main_arg4) ix0) := by
    funext e
    refine (pay7_at (iblk m c 1 t) (iblk m c 2 t) ((iblk m c 0 t : Vec Ideal S1x1 .f32) ix00) r e).trans ?_
    have h1 : (fun k e => (iblk m c 1 t : Vec Ideal S256x8x768 .f32) (ix3 r k e))
        = fun k e => m ((c.tc : Thread nD τ).loc main_arg0) (ix2 (Cert.Pose.row (⟨256 * t.val + r.val, by omega⟩ : Fin 4096) k) e) := by
      funext k e; exact blk1 m c t ht r k e
    have h2 : (fun e => (iblk m c 2 t : Vec Ideal S1x768 .f32) (ix2 0 e)) = fun d => m ((c.tc : Thread nD τ).loc main_arg3) (ix2 d 0) := by
      funext e; exact blk2 m c t e
    exact pooled_congr h1 h2 (blk0 m c t) e
  have h3 : (fun d e => (iblk m c 3 t : Vec Ideal S768x768 .bf16) (ix2 e d)) = fun d e => m ((c.tc : Thread nD τ).loc main_arg5) (ix2 d e) := by
    funext d e; exact blk3 m c t e d
  have h4 : (fun d => (iblk m c 4 t : Vec Ideal S1x768 .f32) (ix2 0 d)) = fun d => m ((c.tc : Thread nD τ).loc main_arg6) (ix1 d) := by
    funext d; exact blk4 m c t d
  exact unit_proj_congr hp h3 h4 d

theorem row_eq (n : Fin 4096) (h : 256 * (n.val / 256) + n.val % 256 < 4096) : (⟨256 * (n.val / 256) + n.val % 256, h⟩ : Fin 4096) = n :=
  Fin.ext (by show 256 * (n.val / 256) + n.val % 256 = n.val; omega)

/-- The first scratch holds the feature rows. -/
theorem fFull_at (c : Dev nD) (n : Fin 4096) (d : Fin 768) : fFull m c (ix2 n d) = featOf m c n d := by
  have hn := n.isLt
  refine (congrArg (fB m c (rowPt n)) (pair_eq ⟨n.val % 256, Nat.mod_lt _ (by decide)⟩ d)).trans ?_
  refine (pay2_at _ _ _ _ _).trans ((pay1_block m c (rowPt n) (by show n.val / 256 < 16; omega) _ d).trans ?_)
  exact congrArg (fun r => featOf m c r d) (row_eq n _)

/-- The second scratch holds their transpose. -/
theorem ftFull_at (c : Dev nD) (n : Fin 4096) (d : Fin 768) : ftFull m c (ix2 d n) = featOf m c n d := by
  have hn := n.isLt
  refine (congrArg (ftB m c (rowPt n)) (pair_eq d ⟨n.val % 256, Nat.mod_lt _ (by decide)⟩)).trans ?_
  refine (pay3_at _ _ _ _ _).trans ((pay1_block m c (rowPt n) (by show n.val / 256 < 16; omega) _ d).trans ?_)
  exact congrArg (fun r => featOf m c r d) (row_eq n _)

/-- The second coordinate of the point that writes row `n`. -/
theorem outPt_coord (n : Fin 4096) : (grid0.coords (outPt n) 1).val = n.val / 256 := by
  have hn := n.isLt
  rw [coord1]
  show (16 + n.val / 256) / 1 % 16 = _
  omega

/-- The rows that point reads. -/
theorem rows_at (c : Dev nD) (n : Fin 4096) (d : Fin 768) :
    rowsOf (grid0.coords (outPt n)) (fFull m c) (outPt_cond n) (ix2 ⟨n.val % 256, Nat.mod_lt _ (by decide)⟩ d) = featOf m c n d := by
  have hn := n.isLt
  have ho := off3_eq (grid0.coords (outPt n))
  rw [outPt_coord] at ho
  rw [← fFull_at]
  refine congrArg (fFull m c) (funext fun a => Fin.ext ?_)
  match a with
  | ⟨0, _⟩ =>
    show k0_off3 (grid0.coords (outPt n)) 0 + 1 * (n.val % 256) = n.val
    rw [ho]; show 256 * (n.val / 256) + 1 * (n.val % 256) = n.val; omega
  | ⟨1, _⟩ =>
    show k0_off3 (grid0.coords (outPt n)) 1 + 1 * (d.val) = d.val
    rw [ho]; show 0 + 1 * d.val = d.val; omega

/-- The rows of the other view that it reads. -/
theorem pairs_at (c : Dev nD) (n : Fin 4096) (d : Fin 768) :
    pairsOf (grid0.coords (outPt n)) (fFull m c) (outPt_cond n) (ix2 ⟨n.val % 256, Nat.mod_lt _ (by decide)⟩ d) = featOf m c (pair n) d := by
  have hn := n.isLt
  have ho := off4_eq (grid0.coords (outPt n))
  rw [outPt_coord] at ho
  rw [← fFull_at]
  refine congrArg (fFull m c) (funext fun a => Fin.ext ?_)
  match a with
  | ⟨0, _⟩ =>
    show k0_off4 (grid0.coords (outPt n)) 0 + 1 * (n.val % 256) = (n.val + 2048) % 4096
    rw [ho]; show 256 * ((n.val / 256 + 8) % 16) + 1 * (n.val % 256) = (n.val + 2048) % 4096; omega
  | ⟨1, _⟩ =>
    show k0_off4 (grid0.coords (outPt n)) 1 + 1 * (d.val) = d.val
    rw [ho]; show 0 + 1 * d.val = d.val; omega

/-- The similarity sum over the point's rows and the transpose. -/
theorem simsum (c : Dev nD) (n j : Fin 4096) :
    (∑ d : Fin 768, rowsOf (grid0.coords (outPt n)) (fFull m c) (outPt_cond n) (ix2 ⟨n.val % 256, Nat.mod_lt _ (by decide)⟩ d) * ftFull m c (ix2 d j) : EReal)
      = sim (featOf m c) n j :=
  Finset.sum_congr rfl fun d _ => congr (congrArg _ (rows_at m c n d)) (ftFull_at m c j d)

open Classical in
/-- The mask at an index. -/
theorem mask_at (c : Dev nD) (n j : Fin 4096) :
    k0_pay9 (F := Ideal) (BitVec.ofNat 32 (grid0.coords (outPt n) 1).val) (rowsOf (grid0.coords (outPt n)) (fFull m c) (outPt_cond n)) (ftFull m c)
        (ix2 ⟨n.val % 256, Nat.mod_lt _ (by decide)⟩ j)
      = BitVec.ofBool (decide (Safe (featOf m c) n j)) := by
  have hn := n.isLt
  rw [outPt_coord, pay9_at _ (by omega)]
  congr 2
  rw [simsum]
  show (_ ∧ ¬ (256 * (n.val / 256) + n.val % 256) % 2048 = _) = _
  rw [show 256 * (n.val / 256) + n.val % 256 = n.val by omega]
  rfl

/-- The first result: the masked similarities of the feature rows. -/
theorem neg_at (c : Dev nD) (i j : Fin 4096) : negFull m c (ix2 i j) = neg (featOf m c) i j := by
  refine (congrArg (negW _ _ _) (pair_eq ⟨i.val % 256, Nat.mod_lt _ (by decide)⟩ j)).trans ?_
  refine (pay4_at _ _ _ _).trans ?_
  refine (congrArg (fun p => Scalar.select p _ _) (mask_at m c i j)).trans ?_
  rw [select_ofBool]
  unfold neg
  rw [← simsum]
  congr 1
  exact pay8_at _ _ _ _

/-- The second: the counts of safe negatives. -/
theorem cnt_at (c : Dev nD) (i : Fin 4096) (l : Fin 128) : cntFull m c (ix2 i l) = cnt (featOf m c) i := by
  refine (congrArg (cntW _ _ _) (pair_eq ⟨i.val % 256, Nat.mod_lt _ (by decide)⟩ l)).trans ?_
  refine (pay5_at _ _ _ _ _).trans (Finset.sum_congr rfl fun j _ => ?_)
  refine (congrArg (fun p => Scalar.select p _ _) (mask_at m c i j)).trans ?_
  rw [select_ofBool]

/-- The third: the similarities of the positive pairs. -/
theorem pos_at (c : Dev nD) (i : Fin 4096) (l : Fin 128) : posFull m c (ix2 i l) = pos (featOf m c) i := by
  refine (congrArg (k0_pay6 _ _) (pair_eq ⟨i.val % 256, Nat.mod_lt _ (by decide)⟩ l)).trans ?_
  exact (pay6_at _ _ _ _).trans (Finset.sum_congr rfl fun d _ => congr (congrArg _ (rows_at m c i d)) (pairs_at m c i d))

end Cert.KernelIdeal.Hand

end
-- ==== Proof.RefLib.lean ====
module

public import proofs.«01_k».proof.Proof.Spec
public import proofs.«01_k».proof.Proof.Gen.ReferenceIdeal.Read
public import Idealize.ShloMosaic.Lib.Routing.OpsPair
public import Idealize.ShloMosaic.Lib.StableHlo.Predicate

/-!
  The reference's scatters and gathers read at an index, when the index array's entry `n` is `n / 8`:
  a table's scattered sum is the sum over its eight rows, a row's gathered value is its table's; and
  the gather of one entry per row.
-/

@[expose] public section

noncomputable section

namespace Cert.ReferenceIdeal.Hand

open Cert.ReferenceIdeal Cert.ReferenceIdeal.Gen
open Idealize.ShloMosaic Idealize.ShloMosaic.TcCoe
open Cert.Pose

/-- The row of a half that is the `k`-th of table `r`. -/
def half (r : Fin 2048) (k : Fin 8) : Fin 16384 := ⟨8 * r.val + k.val, by omega⟩

/-- The table of a row of a half. -/
def table (n : Fin 16384) : Fin 2048 := ⟨n.val / 8, by omega⟩

theorem table_half (r : Fin 2048) (k : Fin 8) : table (half r k) = r := Fin.ext (by show (8 * r.val + k.val) / 8 = r.val; omega)

/-- Where update `n` of the scatter into 2048 sums lands. -/
theorem lands1 (idx : IVec S16384x1 32) (hidx : ∀ n : Fin 16384, idx (ix2 n 0) = BitVec.ofNat 32 (n.val / 8)) (n : Fin 16384) (r : Fin 2048) :
    scatter_S2048_S16384x1_S16384_n_0_0_1.resultIdx? (ix1 n) idx = some (ix1 r) ↔ n.val / 8 = r.val := by
  have hw : scatter_S2048_S16384x1_S16384_n_0_0_1.window (ix1 n) 0 = 0 := rfl
  have hs : scatter_S2048_S16384x1_S16384_n_0_0_1.start (ix1 n) idx 0 = (idx (ix2 n 0)).toInt := by
    unfold ScatterDims.start
    rw [dif_pos (by decide)]
    refine congrArg (fun i => (idx i).toInt) (funext fun a => Fin.ext ?_)
    match a with
    | ⟨0, _⟩ => rfl
    | ⟨1, _⟩ => rfl
  refine (Routing.resultIdx?_ix1 _ _ _ _).trans ?_
  rw [hw, hs, hidx, StableHlo.Predicate.toInt_ofNat_small _ (by omega)]
  omega

/-- The scattered sums of a vector: each table's old value plus its eight rows'. -/
theorem scatter1_at (x : FVec Ideal S2048 .f32) (idx : IVec S16384x1 32) (hidx : ∀ n : Fin 16384, idx (ix2 n 0) = BitVec.ofNat 32 (n.val / 8))
    (upd : FVec Ideal S16384 .f32) (r : Fin 2048) :
    Host.scatterAdd scatter_S2048_S16384x1_S16384_n_0_0_1 x idx upd (ix1 r) = x (ix1 r) + ∑ k : Fin 8, upd (ix1 (half r k)) := by
  show Ideal.hostScatterAdd scatter_S2048_S16384x1_S16384_n_0_0_1 x idx upd (ix1 r) = _
  unfold Ideal.hostScatterAdd
  refine congrArg (fun s => x (ix1 r) + s) ?_
  refine Finset.sum_filter_eq_sum_of_fiber _ (fun k : Fin 8 => (ix1 (half r k) : S16384.Idx)) (fun a b h => ?_) (fun i => ?_) _
  · have := congrArg Fin.val (congrFun h 0)
    change 8 * r.val + a.val = 8 * r.val + b.val at this
    exact Fin.ext (by omega)
  · obtain ⟨n, rfl⟩ : ∃ n : Fin 16384, i = ix1 n := ⟨i 0, (eq_ix1 i)⟩
    rw [lands1 idx hidx]
    constructor
    · intro h
      exact ⟨⟨n.val % 8, Nat.mod_lt _ (by decide)⟩, congrArg ix1 (Fin.ext (by show 8 * r.val + n.val % 8 = n.val; omega))⟩
    · rintro ⟨k, hk⟩
      have := congrArg Fin.val (congrFun hk 0)
      change 8 * r.val + k.val = n.val at this
      omega

/-- Where update `(n, e)` of the scatter into 2048 rows lands. -/
theorem lands2 (idx : IVec S16384x1 32) (hidx : ∀ n : Fin 16384, idx (ix2 n 0) = BitVec.ofNat 32 (n.val / 8)) (n : Fin 16384) (e : Fin 768)
    (r : Fin 2048) (d : Fin 768) :
    scatter_S2048x768_S16384x1_S16384x768_1_0_0_1.resultIdx? (ix2 n e) idx = some (ix2 r d) ↔ n.val / 8 = r.val ∧ e = d := by
  have hw0 : scatter_S2048x768_S16384x1_S16384x768_1_0_0_1.window (ix2 n e) 0 = 0 := rfl
  have hw1 : scatter_S2048x768_S16384x1_S16384x768_1_0_0_1.window (ix2 n e) 1 = e.val := rfl
  have hs0 : scatter_S2048x768_S16384x1_S16384x768_1_0_0_1.start (ix2 n e) idx 0 = (idx (ix2 n 0)).toInt := by
    unfold ScatterDims.start
    rw [dif_pos (by decide)]
    refine congrArg (fun i => (idx i).toInt) (funext fun a => Fin.ext ?_)
    match a with
    | ⟨0, _⟩ => rfl
    | ⟨1, _⟩ => rfl
  have hs1 : scatter_S2048x768_S16384x1_S16384x768_1_0_0_1.start (ix2 n e) idx 1 = 0 := by
    unfold ScatterDims.start
    rw [dif_neg (by decide)]
  refine (Routing.resultIdx?_ix2 _ _ _ _ _).trans ?_
  rw [hw0, hw1, hs0, hs1, hidx, StableHlo.Predicate.toInt_ofNat_small _ (by omega), Fin.ext_iff]
  omega

/-- The scattered sums of rows: each table's old row plus its eight rows. -/
theorem scatter2_at (x : FVec Ideal S2048x768 .f32) (idx : IVec S16384x1 32) (hidx : ∀ n : Fin 16384, idx (ix2 n 0) = BitVec.ofNat 32 (n.val / 8))
    (upd : FVec Ideal S16384x768 .f32) (r : Fin 2048) (d : Fin 768) :
    Host.scatterAdd scatter_S2048x768_S16384x1_S16384x768_1_0_0_1 x idx upd (ix2 r d) = x (ix2 r d) + ∑ k : Fin 8, upd (ix2 (half r k) d) := by
  show Ideal.hostScatterAdd scatter_S2048x768_S16384x1_S16384x768_1_0_0_1 x idx upd (ix2 r d) = _
  unfold Ideal.hostScatterAdd
  refine congrArg (fun s => x (ix2 r d) + s) ?_
  refine Finset.sum_filter_eq_sum_of_fiber _ (fun k : Fin 8 => (ix2 (half r k) d : S16384x768.Idx)) (fun a b h => ?_) (fun i => ?_) _
  · have := congrArg Fin.val (congrFun h 0)
    change 8 * r.val + a.val = 8 * r.val + b.val at this
    exact Fin.ext (by omega)
  · obtain ⟨n, e, rfl⟩ : ∃ (n : Fin 16384) (e : Fin 768), i = ix2 n e := ⟨i 0, i 1, (eq_ix2 i)⟩
    rw [lands2 idx hidx]
    constructor
    · rintro ⟨h, rfl⟩
      exact ⟨⟨n.val % 8, Nat.mod_lt _ (by decide)⟩, congrArg (fun a => ix2 a e) (Fin.ext (by show 8 * r.val + n.val % 8 = n.val; omega))⟩
    · rintro ⟨k, hk⟩
      have h0 := congrArg Fin.val (congrFun hk 0)
      change 8 * r.val + k.val = n.val at h0
      have h1 : d = e := congrFun hk 1
      exact ⟨by omega, h1.symm⟩

/-- The gathered sums: each row reads its table's. -/
theorem gather1_at (x : FVec Ideal S2048 .f32) (idx : IVec S16384x1 32) (hidx : ∀ n : Fin 16384, idx (ix2 n 0) = BitVec.ofNat 32 (n.val / 8))
    (n : Fin 16384) :
    Host.gather gather_S2048_S16384x1_S16384_n_0_n_n_0_1_1 x idx (ix1 n) = x (ix1 (table n)) := by
  unfold Host.gather
  refine congrArg x (funext fun a => Fin.ext ?_)
  match a with
  | ⟨0, _⟩ =>
    have hs : gather_S2048_S16384x1_S16384_n_0_n_n_0_1_1.start (ix1 n) idx 0 = min (idx (ix2 n 0)).toInt.toNat 2047 := by
      unfold GatherDims.start
      rw [dif_pos (by decide)]
      refine congrArg (fun i => min (idx i).toInt.toNat 2047) (funext fun a => Fin.ext ?_)
      match a with
      | ⟨0, _⟩ => rfl
      | ⟨1, _⟩ => rfl
    show gather_S2048_S16384x1_S16384_n_0_n_n_0_1_1.start (ix1 n) idx 0 + 0 + 0 = n.val / 8
    rw [hs, hidx, StableHlo.Predicate.toInt_ofNat_small _ (by omega)]
    omega

/-- The gather of one entry per row of a square array. -/
theorem gather2_at (x : FVec Ideal S4096x4096 .f32) (idx : IVec S4096x1x1 32) (g : Fin 4096 → Fin 4096)
    (hidx : ∀ n : Fin 4096, idx (ix3 n 0 0) = BitVec.ofNat 32 (g n).val) (n : Fin 4096) :
    Host.gather gather_S4096x4096_S4096x1x1_S4096x1_n_1_0_0_1_2_11 x idx (ix2 n 0) = x (ix2 n (g n)) := by
  unfold Host.gather
  refine congrArg x (funext fun a => Fin.ext ?_)
  match a with
  | ⟨0, _⟩ =>
    show gather_S4096x4096_S4096x1x1_S4096x1_n_1_0_0_1_2_11.start (ix2 n 0) idx 0
      + gather_S4096x4096_S4096x1x1_S4096x1_n_1_0_0_1_2_11.batchCoord (ix2 n 0) 0 + 0 = n.val
    have hs : gather_S4096x4096_S4096x1x1_S4096x1_n_1_0_0_1_2_11.start (ix2 n 0) idx 0 = 0 := by
      unfold GatherDims.start
      rw [dif_neg (by decide)]
    have hb : gather_S4096x4096_S4096x1x1_S4096x1_n_1_0_0_1_2_11.batchCoord (ix2 n 0) 0 = n.val := rfl
    rw [hs, hb]
    omega
  | ⟨1, _⟩ =>
    have hs : gather_S4096x4096_S4096x1x1_S4096x1_n_1_0_0_1_2_11.start (ix2 n 0) idx 1 = min (idx (ix3 n 0 0)).toInt.toNat 4095 := by
      unfold GatherDims.start
      rw [dif_pos (by decide)]
      refine congrArg (fun i => min (idx i).toInt.toNat 4095) (funext fun a => Fin.ext ?_)
      match a with
      | ⟨0, _⟩ => rfl
      | ⟨1, _⟩ => rfl
      | ⟨2, _⟩ => rfl
    show gather_S4096x4096_S4096x1x1_S4096x1_n_1_0_0_1_2_11.start (ix2 n 0) idx 1 + 0 + 0 = (g n).val
    have hg := (g n).isLt
    rw [hs, hidx, StableHlo.Predicate.toInt_ofNat_small _ (by omega)]
    omega

end Cert.ReferenceIdeal.Hand

end
-- ==== Proof.RefVal.lean ====
module

public import proofs.«01_k».proof.Proof.RefLib

/-!
  What the reference's three results hold at an index, as the functions of the problem's arguments that the
  specification names, when the index arrays give each table eight consecutive rows, the rows and
  the query are real and the projection's offset is zero.
-/

@[expose] public section

noncomputable section

namespace Cert.ReferenceIdeal.Hand

open Cert.ReferenceIdeal Cert.ReferenceIdeal.Gen Cert.ReferenceIdeal.Read
open Idealize.ShloMosaic Idealize.ShloMosaic.TcCoe Idealize.ShloMosaic.StableHlo
open Cert.Pose

variable (x0 : FVec Ideal S32768x768 .f32) (x1 x2 : IVec S16384 32) (x3 : FVec Ideal S768x1 .f32) (x4 : FVec Ideal S_ .f32)
  (x5 : FVec Ideal S768x768 .f32) (x6 : FVec Ideal S768 .f32)

/-! ## The first half -/

/-- Row `n` of the first half. -/
def lo (n : Fin 16384) : Fin 32768 := ⟨n.val, by omega⟩

/-- The score of a row of the first half. -/
def scoreOf (n : Fin 16384) : EReal := score (fun d => x0 (ix2 (lo n) d)) (fun d => x3 (ix2 d 0)) (x4 ix0)

/-- The largest score of the half. -/
def topOf : EReal := (Finset.univ : Finset (Fin 16384)).fold max ⊥ (scoreOf x0 x3 x4)

/-- The scores. -/
theorem v5_at (n : Fin 16384) : val_main_v5 (F := Ideal) x0 x3 x4 (ix1 n) = scoreOf x0 x3 x4 n := by
  unfold scoreOf score
  pointwise [val_main_v5, val_main_v4, val_main_v3, val_main_v2, val_main_v0]
  rfl

/-- Their maximum. -/
theorem v6_at : val_main_v6 (F := Ideal) x0 x3 x4 ix0 = topOf x0 x3 x4 := by
  have h : scoreOf x0 x3 x4 = fun n => val_main_v5 (F := Ideal) x0 x3 x4 (ix1 n) := funext fun n => (v5_at x0 x3 x4 n).symm
  unfold topOf val_main_v6
  rw [h]
  generalize val_main_v5 (F := Ideal) x0 x3 x4 = y
  pointwise [val_main_cst]
  rw [ofBits_neg_inf]

/-- The exponentials. -/
theorem v9_at (n : Fin 16384) : val_main_v9 (F := Ideal) x0 x3 x4 (ix1 n) = Ideal.exp (scoreOf x0 x3 x4 n - topOf x0 x3 x4) := by
  rw [← v5_at, ← v6_at]
  unfold val_main_v9 val_main_v8 val_main_v7
  generalize val_main_v5 (F := Ideal) x0 x3 x4 = y
  generalize val_main_v6 (F := Ideal) x0 x3 x4 = M
  pointwise

section
variable (hx1 : ∀ n : Fin 16384, x1 (ix1 n) = BitVec.ofNat 32 (n.val / 8))
include hx1

/-- The scatter's indices. -/
theorem v11_at (n : Fin 16384) : val_main_v11 (F := Ideal) x1 (ix2 n 0) = BitVec.ofNat 32 (n.val / 8) := by
  rw [← hx1]
  pointwise [val_main_v11]

theorem v27_at (n : Fin 16384) : val_main_v27 (F := Ideal) x1 (ix2 n 0) = BitVec.ofNat 32 (n.val / 8) := v11_at x1 hx1 n

/-- The gather's: none is negative. -/
theorem v18_at (n : Fin 16384) : val_main_v18 (F := Ideal) x1 (ix2 n 0) = BitVec.ofNat 32 (n.val / 8) := by
  pointwise [val_main_v18, val_main_v17, val_main_v16, val_main_v15, val_main_v14, val_main_v13, val_main_c, val_main_c_1]
  rw [hx1]
  exact Routing.wrap_of_lt _ _ (by rw [BitVec.toNat_ofNat]; omega)

/-- The sums of the exponentials. -/
theorem v12_at (r : Fin 2048) :
    val_main_v12 (F := Ideal) x0 x1 x3 x4 (ix1 r) = ∑ k : Fin 8, Ideal.exp (scoreOf x0 x3 x4 (half r k) - topOf x0 x3 x4) := by
  unfold val_main_v12
  refine (scatter1_at _ _ (v11_at x1 hx1) _ r).trans ?_
  have h0 : val_main_v10 (F := Ideal) (ix1 r) = 0 := by
    pointwise [val_main_v10, val_main_cst_0]
  rw [h0, zero_add]
  exact Finset.sum_congr rfl fun k _ => v9_at x0 x3 x4 (half r k)

/-- The weighted rows. -/
theorem v25_at (n : Fin 16384) (d : Fin 768) :
    val_main_v25 (F := Ideal) x0 x1 x3 x4 (ix2 n d)
      = x0 (ix2 (lo n) d) * Ideal.div (Ideal.exp (scoreOf x0 x3 x4 n - topOf x0 x3 x4))
          ((∑ j : Fin 8, Ideal.exp (scoreOf x0 x3 x4 (half (table n) j) - topOf x0 x3 x4)) + eps) := by
  have h := gather1_at (val_main_v12 (F := Ideal) x0 x1 x3 x4) _ (v18_at x1 hx1) n
  rw [v12_at x0 x1 x3 x4 hx1] at h
  rw [← h, ← v9_at]
  change _ = _ * Ideal.div _ (val_main_v19 (F := Ideal) x0 x1 x3 x4 (ix1 n) + _)
  unfold val_main_v25 val_main_v24 val_main_v23 val_main_v22 val_main_v21 val_main_v20 val_main_v0
  generalize val_main_v9 (F := Ideal) x0 x3 x4 = y
  generalize val_main_v19 (F := Ideal) x0 x1 x3 x4 = M
  pointwise [val_main_cst_2]
  rfl

/-- The pooled rows. -/
theorem v28_at (r : Fin 2048) (d : Fin 768) :
    val_main_v28 (F := Ideal) x0 x1 x3 x4 (ix2 r d)
      = ∑ k : Fin 8, x0 (ix2 (lo (half r k)) d) * Ideal.div (Ideal.exp (scoreOf x0 x3 x4 (half r k) - topOf x0 x3 x4))
          ((∑ j : Fin 8, Ideal.exp (scoreOf x0 x3 x4 (half r j) - topOf x0 x3 x4)) + eps) := by
  unfold val_main_v28
  refine (scatter2_at _ _ (v27_at x1 hx1) _ r d).trans ?_
  have h0 : val_main_v26 (F := Ideal) (ix2 r d) = 0 := by
    pointwise [val_main_v26, val_main_cst_3]
  rw [h0, zero_add]
  refine Finset.sum_congr rfl fun k _ => (v25_at x0 x1 x3 x4 hx1 (half r k) d).trans ?_
  rw [table_half]

/-- The projected rows. -/
theorem v33_at (r : Fin 2048) (d : Fin 768) :
    val_main_v33 (F := Ideal) x0 x1 x3 x4 x5 x6 (ix2 r d)
      = proj (fun e => val_main_v28 (F := Ideal) x0 x1 x3 x4 (ix2 r e)) (fun d e => x5 (ix2 d e)) (fun d => x6 (ix1 d)) d := by
  unfold val_main_v33 val_main_v32 val_main_v31 val_main_v30 val_main_v29 proj
  generalize val_main_v28 (F := Ideal) x0 x1 x3 x4 = y
  pointwise

/-- The normalised projected row is the specification's: the reference's pooling differs by a positive factor. -/
theorem v33_unit (z : Fin 32768 → Fin 768 → ℝ) (q : Fin 768 → ℝ) (hz : ∀ n d, x0 (ix2 n d) = (z n d : EReal))
    (hq : ∀ d, x3 (ix2 d 0) = (q d : EReal)) (hb : ∀ d, x6 (ix1 d) = 0) (r : Fin 2048) (d : Fin 768) :
    unit (fun d => val_main_v33 (F := Ideal) x0 x1 x3 x4 x5 x6 (ix2 r d)) d
      = unit (proj (pooled (fun k e => x0 (ix2 (lo (half r k)) e)) (fun e => x3 (ix2 e 0)) (x4 ix0)) (fun d e => x5 (ix2 d e)) (fun d => x6 (ix1 d))) d := by
  obtain ⟨ε, hε, he⟩ := eps_pos
  have hs : ∀ n, scoreOf x0 x3 x4 n = Ideal.div ((∑ d, z (lo n) d * q d : ℝ) : EReal) (x4 ix0) := by
    intro n
    unfold scoreOf score
    congr 1
    rw [← sum_coe]
    refine Finset.sum_congr rfl fun d _ => ?_
    rw [EReal.coe_mul, ← hz, ← hq]
  have hev : Pose.Even fun n => scoreOf x0 x3 x4 n := by
    rw [show (fun n => scoreOf x0 x3 x4 n) = _ from funext hs]
    exact even_div (fun n => ∑ d, z (lo n) d * q d) (x4 ix0)
  have hevk : Pose.Even fun k : Fin 8 => scoreOf x0 x3 x4 (half r k) := by
    rw [show (fun k : Fin 8 => scoreOf x0 x3 x4 (half r k)) = _ from funext fun k => hs (half r k)]
    exact even_div (fun k : Fin 8 => ∑ d, z (lo (half r k)) d * q d) (x4 ix0)
  have hreal : (∃ f : Fin 8 → ℝ, ∀ k, scoreOf x0 x3 x4 (half r k) = f k) → ∃ ρ : ℝ, topOf x0 x3 x4 = ρ := by
    rintro ⟨f, hf⟩
    rcases hev with ⟨g, hg⟩ | hinf
    · exact fold_max_real _ Finset.univ_nonempty _ g hg
    · have h0 := hf 0
      rcases hinf (half r 0) with h | h <;> change scoreOf x0 x3 x4 (half r 0) = _ at h
      · rw [h] at h0; exact absurd h0.symm (EReal.coe_ne_top _)
      · rw [h] at h0; exact absurd h0.symm (EReal.coe_ne_bot _)
  obtain ⟨c, hc, hfac⟩ := pool_factor (fun k : Fin 8 => scoreOf x0 x3 x4 (half r k)) (fun k d => z (lo (half r k)) d)
    (topOf x0 x3 x4) (top (fun k e => x0 (ix2 (lo (half r k)) e)) (fun e => x3 (ix2 e 0)) (x4 ix0)) ε hevk
    (fun k => le_fold_max _ _ (Finset.mem_univ _)) (fun k => le_fold_max _ (fun k => scoreOf x0 x3 x4 (half r k)) (Finset.mem_univ k))
    hreal (fun ⟨f, hf⟩ => fold_max_real _ Finset.univ_nonempty (fun k => scoreOf x0 x3 x4 (half r k)) f hf) hε
  have hP : ∀ e, val_main_v28 (F := Ideal) x0 x1 x3 x4 (ix2 r e)
      = (c : EReal) * pooled (fun k e => x0 (ix2 (lo (half r k)) e)) (fun e => x3 (ix2 e 0)) (x4 ix0) e := by
    intro e
    rw [v28_at x0 x1 x3 x4 hx1, he]
    simp only [hz] at hfac ⊢
    refine (hfac e).trans ?_
    unfold pooled
    rw [he]
    simp only [scoreOf, hz]
  have hproj : ∀ p : Fin 768 → EReal, proj p (fun d e => x5 (ix2 d e)) (fun d => x6 (ix1 d)) = fun d => ∑ e, p e * (fun e d => x5 (ix2 d e)) e d := by
    intro p
    funext d
    unfold proj
    show _ + x6 (ix1 d) = _
    rw [hb, add_zero]
  rw [show (fun d => val_main_v33 (F := Ideal) x0 x1 x3 x4 x5 x6 (ix2 r d)) = _ from funext fun d => v33_at x0 x1 x3 x4 x5 x6 hx1 r d]
  change unit (proj _ _ _) d = _
  rw [hproj, hproj]
  exact unit_project hc _ _ hP _ d

end

/-! ## The second half -/

/-- The rows with the two halves exchanged. -/
def swap : FVec Ideal S32768x768 .f32 := fun i => x0 (ix2 ⟨((i 0).val + 16384) % 32768, Nat.mod_lt _ (by decide)⟩ (i 1))

theorem swap_at (n : Fin 32768) (d : Fin 768) : swap x0 (ix2 n d) = x0 (ix2 ⟨(n.val + 16384) % 32768, Nat.mod_lt _ (by decide)⟩ d) := rfl

/-- The first half of the exchanged rows is the second half. -/
theorem v0_swap : val_main_v0 (F := Ideal) (swap x0) = val_main_v1 (F := Ideal) x0 := by
  funext i
  obtain ⟨n, d, rfl⟩ : ∃ (n : Fin 16384) (d : Fin 768), i = ix2 n d := ⟨i 0, i 1, eq_ix2 i⟩
  pointwise [val_main_v0, val_main_v1]
  rw [swap_at]
  have hn := n.isLt
  refine congrArg (fun r => x0 (ix2 r d)) (Fin.ext ?_)
  show (n.val + 16384) % 32768 = 16384 + n.val
  omega

/-- The second half is computed as the first. -/
theorem v65_eq : val_main_v65 (F := Ideal) x0 x2 x3 x4 x5 x6 = val_main_v33 (F := Ideal) (swap x0) x2 x3 x4 x5 x6 := by
  have h37 : val_main_v37 (F := Ideal) x0 x3 x4 = val_main_v5 (F := Ideal) (swap x0) x3 x4 := by
    unfold val_main_v37 val_main_v5 val_main_v35 val_main_v3 val_main_v34 val_main_v2 val_main_v36 val_main_v4
    rw [v0_swap]
  have h38 : val_main_v38 (F := Ideal) x0 x3 x4 = val_main_v6 (F := Ideal) (swap x0) x3 x4 := by
    unfold val_main_v38 val_main_v6 val_main_cst_4 val_main_cst
    rw [h37]
  have h41 : val_main_v41 (F := Ideal) x0 x3 x4 = val_main_v9 (F := Ideal) (swap x0) x3 x4 := by
    unfold val_main_v41 val_main_v9 val_main_v40 val_main_v8 val_main_v39 val_main_v7
    rw [h37, h38]
  have h44 : val_main_v44 (F := Ideal) x0 x2 x3 x4 = val_main_v12 (F := Ideal) (swap x0) x2 x3 x4 := by
    unfold val_main_v44 val_main_v12 val_main_v42 val_main_v10 val_main_v43 val_main_v11 val_main_cst_5 val_main_cst_0
    rw [h41]
  have h50 : val_main_v50 (F := Ideal) x2 = val_main_v18 (F := Ideal) x2 := by
    unfold val_main_v50 val_main_v18 val_main_v49 val_main_v17 val_main_v48 val_main_v16 val_main_v47 val_main_v15 val_main_v46 val_main_v14 val_main_v45 val_main_v13 val_main_c_6 val_main_c val_main_c_7 val_main_c_1
    rfl
  have h51 : val_main_v51 (F := Ideal) x0 x2 x3 x4 = val_main_v19 (F := Ideal) (swap x0) x2 x3 x4 := by
    unfold val_main_v51 val_main_v19
    rw [h44, h50]
  have h57 : val_main_v57 (F := Ideal) x0 x2 x3 x4 = val_main_v25 (F := Ideal) (swap x0) x2 x3 x4 := by
    unfold val_main_v57 val_main_v25 val_main_v56 val_main_v24 val_main_v55 val_main_v23 val_main_v54 val_main_v22 val_main_v53 val_main_v21 val_main_v52 val_main_v20 val_main_cst_8 val_main_cst_2
    rw [h41, h51, v0_swap]
  have h60 : val_main_v60 (F := Ideal) x0 x2 x3 x4 = val_main_v28 (F := Ideal) (swap x0) x2 x3 x4 := by
    unfold val_main_v60 val_main_v28 val_main_v58 val_main_v26 val_main_v59 val_main_v27 val_main_cst_9 val_main_cst_3
    rw [h57]
  unfold val_main_v65 val_main_v33 val_main_v62 val_main_v30 val_main_v64 val_main_v32 val_main_v63 val_main_v31 val_main_v61 val_main_v29
  rw [h60]

end Cert.ReferenceIdeal.Hand

end
-- ==== Proof.RefRes.lean ====
module

public import proofs.«01_k».proof.Proof.RefVal
public import Idealize.ShloMosaic.Lib.IndicatorCount
public import Idealize.ShloMosaic.Lib.Routing.Words

/-!
  The reference's normalised rows are the specification's feature rows, and its three results the masked
  similarities, the counts and the positive similarities of them.
-/

@[expose] public section

noncomputable section

namespace Cert.ReferenceIdeal.Hand

open Cert.ReferenceIdeal Cert.ReferenceIdeal.Gen Cert.ReferenceIdeal.Read
open Idealize.ShloMosaic Idealize.ShloMosaic.TcCoe Idealize.ShloMosaic.StableHlo
open Cert.Pose

variable (x0 : FVec Ideal S32768x768 .f32) (x1 x2 : IVec S16384 32) (x3 : FVec Ideal S768x1 .f32) (x4 : FVec Ideal S_ .f32)
  (x5 : FVec Ideal S768x768 .f32) (x6 : FVec Ideal S768 .f32)

/-- The rows before normalisation: the first 2048 from the first half. -/
theorem v66_lo (i : Fin 4096) (h : i.val < 2048) (d : Fin 768) :
    val_main_v66 (F := Ideal) x0 x1 x2 x3 x4 x5 x6 (ix2 i d) = val_main_v33 (F := Ideal) x0 x1 x3 x4 x5 x6 (ix2 ⟨i.val, h⟩ d) := by
  unfold val_main_v66
  generalize val_main_v33 (F := Ideal) x0 x1 x3 x4 x5 x6 = a
  generalize val_main_v65 (F := Ideal) x0 x2 x3 x4 x5 x6 = b
  pointwise
  rw [dif_pos h]

/-- The other 2048 from the second. -/
theorem v66_hi (i : Fin 4096) (h : ¬ i.val < 2048) (d : Fin 768) :
    val_main_v66 (F := Ideal) x0 x1 x2 x3 x4 x5 x6 (ix2 i d) = val_main_v65 (F := Ideal) x0 x2 x3 x4 x5 x6 (ix2 ⟨i.val - 2048, by omega⟩ d) := by
  unfold val_main_v66
  generalize val_main_v33 (F := Ideal) x0 x1 x3 x4 x5 x6 = a
  generalize val_main_v65 (F := Ideal) x0 x2 x3 x4 x5 x6 = b
  pointwise
  rw [dif_neg h]

/-- The normalised rows. -/
theorem v69_at (i : Fin 4096) (d : Fin 768) :
    val_main_v69 (F := Ideal) x0 x1 x2 x3 x4 x5 x6 (ix2 i d) = unit (fun d => val_main_v66 (F := Ideal) x0 x1 x2 x3 x4 x5 x6 (ix2 i d)) d := by
  unfold val_main_v69 val_main_v68 val_main_v67 val_main_call0_v2 val_main_call0_v1 val_main_call0_v0 unit
  generalize val_main_v66 (F := Ideal) x0 x1 x2 x3 x4 x5 x6 = a
  pointwise [val_main_call0_cst]

/-- The similarities of the normalised rows. -/
theorem v71_at (i j : Fin 4096) :
    val_main_v71 (F := Ideal) x0 x1 x2 x3 x4 x5 x6 (ix2 i j) = sim (fun i d => val_main_v69 (F := Ideal) x0 x1 x2 x3 x4 x5 x6 (ix2 i d)) i j := by
  unfold val_main_v71 val_main_v70 sim
  generalize val_main_v69 (F := Ideal) x0 x1 x2 x3 x4 x5 x6 = a
  pointwise

/-- The specification's feature rows of the arguments. -/
def featOf : Fin 4096 → Fin 768 → EReal :=
  feat (fun n d => x0 (ix2 n d)) (fun d => x3 (ix2 d 0)) (x4 ix0) (fun d e => x5 (ix2 d e)) (fun d => x6 (ix1 d))

section
variable (hx1 : ∀ n : Fin 16384, x1 (ix1 n) = BitVec.ofNat 32 (n.val / 8)) (hx2 : ∀ n : Fin 16384, x2 (ix1 n) = BitVec.ofNat 32 (n.val / 8))
  (z : Fin 32768 → Fin 768 → ℝ) (q : Fin 768 → ℝ) (hz : ∀ n d, x0 (ix2 n d) = (z n d : EReal))
  (hq : ∀ d, x3 (ix2 d 0) = (q d : EReal)) (hb : ∀ d, x6 (ix1 d) = 0)
include hx1 hx2 hz hq hb

/-- The normalised rows are the feature rows. -/
theorem v69_feat (i : Fin 4096) (d : Fin 768) : val_main_v69 (F := Ideal) x0 x1 x2 x3 x4 x5 x6 (ix2 i d) = featOf x0 x3 x4 x5 x6 i d := by
  have hi := i.isLt
  rw [v69_at]
  by_cases h : i.val < 2048
  · rw [show (fun d => val_main_v66 (F := Ideal) x0 x1 x2 x3 x4 x5 x6 (ix2 i d)) = _ from funext fun d => v66_lo x0 x1 x2 x3 x4 x5 x6 i h d,
      v33_unit x0 x1 x3 x4 x5 x6 hx1 z q hz hq hb]
    rfl
  · rw [show (fun d => val_main_v66 (F := Ideal) x0 x1 x2 x3 x4 x5 x6 (ix2 i d)) = _ from funext fun d => v66_hi x0 x1 x2 x3 x4 x5 x6 i h d,
      v65_eq, v33_unit (swap x0) x2 x3 x4 x5 x6 hx2 (fun n d => z ⟨(n.val + 16384) % 32768, Nat.mod_lt _ (by decide)⟩ d) q
        (fun n d => hz _ d) hq hb]
    have hy : (fun (k : Fin 8) (e : Fin 768) => swap x0 (ix2 (lo (half ⟨i.val - 2048, by omega⟩ k)) e)) = fun k e => x0 (ix2 (row i k) e) := by
      funext k e
      rw [swap_at]
      refine congrArg (fun r => x0 (ix2 r e)) (Fin.ext ?_)
      show (8 * (i.val - 2048) + k.val + 16384) % 32768 = 8 * i.val + k.val
      omega
    rw [hy]
    unfold featOf feat
    exact rfl

/-- The similarities are the features'. -/
theorem v71_feat (i j : Fin 4096) : val_main_v71 (F := Ideal) x0 x1 x2 x3 x4 x5 x6 (ix2 i j) = sim (featOf x0 x3 x4 x5 x6) i j := by
  rw [v71_at, show (fun i d => val_main_v69 (F := Ideal) x0 x1 x2 x3 x4 x5 x6 (ix2 i d)) = featOf x0 x3 x4 x5 x6 from
    funext fun i => funext fun d => v69_feat x0 x1 x2 x3 x4 x5 x6 hx1 hx2 z q hz hq hb i d]

end

/-- The labels. -/
theorem v74_at (i : Fin 4096) : val_main_v74 (F := Ideal) (ix1 i) = BitVec.ofNat 32 (i.val % 2048) := by
  have hi := i.isLt
  pointwise [val_main_v74, val_main_v73, val_main_v72]
  split
  · rw [Nat.mod_eq_of_lt (by assumption)]
  · exact congrArg (BitVec.ofNat 32) (by omega)

/-- The mask's bits: neither above the threshold and of different tables, nor of one table. -/
theorem mask_bits (p r : Prop) [Decidable p] [Decidable r] :
    IntOp.andi (~~~IntOp.andi (BitVec.ofBool (decide p)) (~~~BitVec.ofBool (decide r))) (~~~BitVec.ofBool (decide r))
      = BitVec.ofBool (decide (¬ p ∧ ¬ r)) := by
  by_cases hp : p <;> by_cases hr : r <;> simp [hp, hr, IntOp.andi]

open Classical in
/-- The mask. -/
theorem v86_at (f : Fin 4096 → Fin 768 → EReal) (hf : ∀ i j, val_main_v71 (F := Ideal) x0 x1 x2 x3 x4 x5 x6 (ix2 i j) = sim f i j) (i j : Fin 4096) :
    val_main_v86 (F := Ideal) x0 x1 x2 x3 x4 x5 x6 (ix2 i j) = BitVec.ofBool (decide (Safe f i j)) := by
  revert hf
  unfold val_main_v86 val_main_v85 val_main_v84 val_main_v83 val_main_v82 val_main_v81 val_main_v80 val_main_v79 val_main_v78 val_main_v77 val_main_v76 val_main_v75
  generalize val_main_v71 (F := Ideal) x0 x1 x2 x3 x4 x5 x6 = a
  intro hf
  have h := v74_at
  revert h
  generalize val_main_v74 (F := Ideal) = l
  intro h
  pointwise [val_main_cst_10]
  rw [h, h, hf, cmpi_eq _ _ (by omega) (by omega)]
  refine (mask_bits _ _).trans ?_
  congr 2
  unfold Safe
  rw [eq_comm (a := j.val % 2048)]

/-- The first result. -/
theorem v88_at (f : Fin 4096 → Fin 768 → EReal) (hf : ∀ i j, val_main_v71 (F := Ideal) x0 x1 x2 x3 x4 x5 x6 (ix2 i j) = sim f i j) (i j : Fin 4096) :
    val_main_v88 (F := Ideal) x0 x1 x2 x3 x4 x5 x6 (ix2 i j) = neg f i j := by
  classical
  have h : val_main_v88 (F := Ideal) x0 x1 x2 x3 x4 x5 x6 (ix2 i j)
      = Scalar.select (val_main_v86 (F := Ideal) x0 x1 x2 x3 x4 x5 x6 (ix2 i j)) (val_main_v71 (F := Ideal) x0 x1 x2 x3 x4 x5 x6 (ix2 i j))
          (Ideal.ofBits .f32 0xC1200000#32) := by
    unfold val_main_v88 val_main_v87 val_main_call1_v1 val_main_call1_v0
    generalize val_main_v71 (F := Ideal) x0 x1 x2 x3 x4 x5 x6 = a
    generalize val_main_v86 (F := Ideal) x0 x1 x2 x3 x4 x5 x6 = b
    pointwise [val_main_cst_11]
    rfl
  rw [h, v86_at x0 x1 x2 x3 x4 x5 x6 f hf, select_ofBool, hf]
  unfold neg
  congr

/-- The second. -/
theorem v99_at (f : Fin 4096 → Fin 768 → EReal) (hf : ∀ i j, val_main_v71 (F := Ideal) x0 x1 x2 x3 x4 x5 x6 (ix2 i j) = sim f i j)
    (i : Fin 4096) (l : Fin 128) : val_main_v99 (F := Ideal) x0 x1 x2 x3 x4 x5 x6 (ix2 i l) = cnt f i := by
  classical
  have h : val_main_v99 (F := Ideal) x0 x1 x2 x3 x4 x5 x6 (ix2 i l)
      = (((Finset.fold IntOp.addi (0#32) (fun j => (val_main_v86 (F := Ideal) x0 x1 x2 x3 x4 x5 x6 (ix2 i j)).setWidth 32) Finset.univ).toInt : ℝ) : EReal) := by
    unfold val_main_v99 val_main_v92 val_main_v91 val_main_v90 val_main_v89
    generalize val_main_v86 (F := Ideal) x0 x1 x2 x3 x4 x5 x6 = b
    pointwise [val_main_c_12]
    rfl
  rw [h, IndicatorCount.fold_addi_setWidth_eq_card]
  have hc : (Finset.univ.filter fun j => val_main_v86 (F := Ideal) x0 x1 x2 x3 x4 x5 x6 (ix2 i j) = 1#1) = Finset.univ.filter fun j => Safe f i j := by
    refine Finset.filter_congr fun j _ => ?_
    rw [v86_at x0 x1 x2 x3 x4 x5 x6 f hf]
    by_cases hs : Safe f i j <;> simp [hs]
  have hle : (Finset.univ.filter fun j => Safe f i j).card ≤ 4096 := (Finset.card_le_univ _).trans (by rw [Fintype.card_fin])
  rw [hc, Predicate.toInt_ofNat_small _ (by omega)]
  unfold cnt
  rw [show (∑ j, if Safe f i j then (1 : EReal) else 0) = ∑ j, (((if Safe f i j then (1 : ℝ) else 0) : ℝ) : EReal) from
    Finset.sum_congr rfl fun j _ => by split <;> simp, sum_coe, Finset.sum_boole]
  norm_cast

/-- The other view's row number. -/
theorem v97_at (i : Fin 4096) : val_main_v97 (F := Ideal) (ix2 i 0) = BitVec.ofNat 32 (pair i).val := by
  have hi := i.isLt
  have h4 : val_main_call2_v4 (F := Ideal) (ix1 i) = BitVec.ofNat 32 ((i.val + 2048) % 4096) := by
    pointwise [val_main_call2_v4, val_main_call2_v3, val_main_call2_v2, val_main_call2_v1, val_main_call2_v0, val_main_call2_c, val_main_call2_c_0,
      val_main_v95, val_main_v94, val_main_v93, val_main_c_13, val_main_c_14]
    have hm : Scalar.select (IntOp.cmpi .eq (id (constantI S_ 32 4096#32) ix0) 0#32) (1#32) (id (constantI S_ 32 4096#32) ix0) = BitVec.ofNat 32 4096 := by
      decide
    rw [hm, show (2048#32 : BitVec 32) = BitVec.ofNat 32 2048 from rfl, WordCmp.addi_ofNat]
    exact Routing.remsi_word _ (by omega) (by decide) (by decide)
  have h12 : val_main_call2_v12 (F := Ideal) (ix1 i) = 0#1 := by
    pointwise [val_main_call2_v12, val_main_call2_v11, val_main_call2_v10, val_main_call2_v9, val_main_call2_v8, val_main_call2_v7,
      val_main_call2_v6, val_main_call2_v5, val_main_call2_c_1, val_main_call2_c_2, val_main_call2_c_3, val_main_call2_v2, val_main_call2_v1,
      val_main_call2_v0, val_main_call2_c, val_main_call2_c_0, val_main_c_14]
    have hm : Scalar.select (IntOp.cmpi .eq (id (constantI S_ 32 4096#32) ix0) 0#32) (1#32) (id (constantI S_ 32 4096#32) ix0) = BitVec.ofNat 32 4096 := by
      decide
    rw [hm, h4, WordCmp.cmpi_slt_zero, decide_eq_false (by rw [BitVec.toNat_ofNat]; omega), WordCmp.cmpi_slt_zero,
      decide_eq_false (by rw [BitVec.toNat_ofNat]; decide), show IntOp.cmpi .ne (BitVec.ofBool false) (BitVec.ofBool false) = 0#1 from by decide]
    exact BitVec.zero_and
  pointwise [val_main_v97, val_main_v96]
  rw [h12, h4]
  rfl

/-- The index is in range. -/
theorem c3v5_at (i : Fin 4096) : val_main_call3_v5 (F := Ideal) (ix3 i 0 0) = BitVec.ofNat 32 (pair i).val := by
  have h := v97_at i
  pointwise [val_main_call3_v5, val_main_call3_v4, val_main_call3_v3, val_main_call3_v2, val_main_call3_v1, val_main_call3_v0, val_main_call3_c, val_main_call3_c_0]
  rw [h]
  exact Routing.wrap_of_lt _ _ (by rw [BitVec.toNat_ofNat]; have := (pair i).isLt; omega)

/-- The range bit is set. -/
theorem c3v12_at (i : Fin 4096) : val_main_call3_v12 (F := Ideal) (ix2 i 0) = 1#1 := by
  have h := c3v5_at i
  pointwise [val_main_call3_v12, val_main_call3_v11, val_main_call3_v10, val_main_call3_v9, val_main_call3_v8, val_main_call3_v7, val_main_call3_v6,
    val_main_call3_c_1, val_main_call3_c_2, val_main_call3_c_3]
  have hp := (pair i).isLt
  rw [show (Finset.univ : Finset (Fin 1)) = {0} from rfl, Finset.fold_singleton, h, WordCmp.cmpi_sge_zero, WordCmp.cmpi_sle_eq,
    Predicate.toInt_ofNat_small _ (by omega), decide_eq_true (by rw [BitVec.toNat_ofNat]; omega),
    decide_eq_true (by show ((pair i).val : ℤ) ≤ 4095; omega)]
  decide

/-- The third result. -/
theorem v100_at (f : Fin 4096 → Fin 768 → EReal) (hf : ∀ i j, val_main_v71 (F := Ideal) x0 x1 x2 x3 x4 x5 x6 (ix2 i j) = sim f i j)
    (i : Fin 4096) (l : Fin 128) : val_main_v100 (F := Ideal) x0 x1 x2 x3 x4 x5 x6 (ix2 i l) = pos f i := by
  have h : val_main_v100 (F := Ideal) x0 x1 x2 x3 x4 x5 x6 (ix2 i l) = val_main_v98 (F := Ideal) x0 x1 x2 x3 x4 x5 x6 (ix2 i 0) := by
    unfold val_main_v100
    generalize val_main_v98 (F := Ideal) x0 x1 x2 x3 x4 x5 x6 = a
    pointwise
  rw [h, val_main_v98_apply, c3v12_at, WordCmp.select_of_eq_one rfl]
  unfold val_main_call3_v13
  rw [gather2_at _ _ pair c3v5_at, hf]
  rfl

end Cert.ReferenceIdeal.Hand

end
-- ==== Proof.Agree.lean ====
/-
  The two programs side by side: under the precondition, the reference's three results of the arguments are the
  kernel's.
-/
module

public import proofs.«01_k».proof.Proof.Pre
public import proofs.«01_k».proof.Proof.KerVal
public import proofs.«01_k».proof.Proof.RefRes
public import proofs.«01_k».proof.Proof.Gen.ReferenceIdeal.Run

@[expose] public section

noncomputable section

namespace Cert.Agree

open Idealize.ShloMosaic Idealize.ShloMosaic.TcCoe Idealize.ShloMosaic.StableHlo
open Cert.Pose

/-- The kernel's memory. -/
abbrev KMem := (ℓ : Loc Cert.KernelIdeal.nD Cert.KernelIdeal.τ Cert.KernelIdeal.sig) → Buf (Elt Ideal) ℓ
/-- The reference's memory. -/
abbrev RMem := (ℓ : Loc Cert.ReferenceIdeal.nD Cert.ReferenceIdeal.τ Cert.ReferenceIdeal.sig) → Buf (Elt Ideal) ℓ

/-- The reference's arguments are the kernel's, on device `c`. -/
def Same (m : KMem) (m' : RMem) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- The precondition on device `c`: the five component arrays of the predicate are all ones. -/
def Holds [Cert.Pre_rows_of_eight.Facts] (m : KMem) (c : Dev Cert.KernelIdeal.nD) : Prop :=
  let p := Cert.Pre_rows_of_eight.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
  p.1 = (fun _ => 1#1) ∧ p.2.1 = (fun _ => 1#1) ∧ p.2.2.1 = (fun _ => 1#1) ∧ p.2.2.2.1 = (fun _ => 1#1) ∧ p.2.2.2.2 = (fun _ => 1#1)

variable [Cert.Pre_rows_of_eight.Facts] (m : KMem) (m' : RMem) (c : Dev Cert.KernelIdeal.nD)

/-- The reference's similarity matrix is that of the kernel's feature rows. -/
theorem sim_at (hp : Holds m c) (i j : Fin 4096) :
    Cert.ReferenceIdeal.Read.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (ix2 i j)
      = sim (Cert.KernelIdeal.Hand.featOf m c) i j :=
  Cert.ReferenceIdeal.Hand.v71_feat _ _ _ _ _ _ _
    (Cert.Pre_rows_of_eight.Hand.first _ _ _ _ _ _ _ hp.1) (Cert.Pre_rows_of_eight.Hand.second _ _ _ _ _ _ _ hp.2.1)
    _ _ (Cert.Pre_rows_of_eight.Hand.rows _ _ _ _ _ _ _ hp.2.2.1) (Cert.Pre_rows_of_eight.Hand.query _ _ _ _ _ _ _ hp.2.2.2.1)
    (Cert.Pre_rows_of_eight.Hand.bias _ _ _ _ _ _ _ hp.2.2.2.2) i j

/-- The reference's first result is the kernel's masked similarity matrix. -/
theorem neg_eq (hp : Holds m c) (hs : Same m m' c) :
    Cert.ReferenceIdeal.Value.res_main_v88 m' c = Cert.KernelIdeal.Hand.negFull m c := by
  obtain ⟨h0, h1, h2, h3, h4, h5, h6⟩ := hs
  refine (Cert.ReferenceIdeal.Read.val_main_v88_eq m' c).trans ?_
  rw [h0, h1, h2, h3, h4, h5, h6]
  funext y
  rw [eq_ix2 y]
  exact (Cert.ReferenceIdeal.Hand.v88_at _ _ _ _ _ _ _ _ (sim_at m c hp) _ _).trans (Cert.KernelIdeal.Hand.neg_at m c _ _).symm

/-- The reference's second result is the kernel's counts. -/
theorem cnt_eq (hp : Holds m c) (hs : Same m m' c) :
    Cert.ReferenceIdeal.Value.res_main_v99 m' c = Cert.KernelIdeal.Hand.cntFull m c := by
  obtain ⟨h0, h1, h2, h3, h4, h5, h6⟩ := hs
  refine (Cert.ReferenceIdeal.Read.val_main_v99_eq m' c).trans ?_
  rw [h0, h1, h2, h3, h4, h5, h6]
  funext y
  rw [eq_ix2 y]
  exact (Cert.ReferenceIdeal.Hand.v99_at _ _ _ _ _ _ _ _ (sim_at m c hp) _ _).trans (Cert.KernelIdeal.Hand.cnt_at m c _ _).symm

/-- The reference's third result is the kernel's positive similarities. -/
theorem pos_eq (hp : Holds m c) (hs : Same m m' c) :
    Cert.ReferenceIdeal.Value.res_main_v100 m' c = Cert.KernelIdeal.Hand.posFull m c := by
  obtain ⟨h0, h1, h2, h3, h4, h5, h6⟩ := hs
  refine (Cert.ReferenceIdeal.Read.val_main_v100_eq m' c).trans ?_
  rw [h0, h1, h2, h3, h4, h5, h6]
  funext y
  rw [eq_ix2 y]
  exact (Cert.ReferenceIdeal.Hand.v100_at _ _ _ _ _ _ _ _ (sim_at m c hp) _ _).trans (Cert.KernelIdeal.Hand.pos_at m c _ _).symm

end Cert.Agree

end
-- ==== Proof.LossRun.lean ====
/-
  The second call's grid point: what the body leaves in its output block, as a function of the blocks it reads.
-/
module

public import proofs.«01_k».proof.Proof.Gen.LossIdeal.Value
public import Idealize.ShloMosaic.Lib.Pipeline.Value
public import Idealize.ShloMosaic.Lib.VecWindow

@[expose] public section

noncomputable section

namespace Cert.LossRun

open Cert.LossIdeal Cert.LossIdeal.Gen Idealize.ShloMosaic Idealize.ShloMosaic.TcCoe Idealize.SL.Sem

variable {F : FTy → Type} [FloatOps F]

/-- The three carried columns: the lower end, the upper end, how many similarities are above the upper end. -/
abbrev Carry (F : FTy → Type) := FVec F S256x1 .f32 × FVec F S256x1 .f32 × FVec F S256x1 .f32

/-- One halving of the bracket. -/
def step (x0 : Vec F S32x128 .f32) (x3 : Vec F S256x4096 .bf16) (a : Carry F) : Carry F :=
  (k0_pay10 x0 a.1 a.2.1 x3, k0_pay11 x0 a.1 a.2.1 x3, k0_pay12 x0 a.1 a.2.1 a.2.2 x3)

/-- The bracket before the first halving. -/
def start (x0 : Vec F S32x128 .f32) (x1 : Vec F S256x128 .f32) (x3 : Vec F S256x4096 .bf16) : Carry F :=
  (k0_pay5 x0 x1, k0_pay4 x3, k0_pay6)

/-- The bracket after ten halvings. -/
def final (x0 : Vec F S32x128 .f32) (x1 : Vec F S256x128 .f32) (x3 : Vec F S256x4096 .bf16) : Carry F :=
  (step x0 x3)^[10] (start x0 x1 x3)

/-- The output block after the point, from the block before it. -/
def block (x0 : Vec F S32x128 .f32) (x1 : Vec F S256x128 .f32) (x2 : Vec F S256x128 .f32) (x3 : Vec F S256x4096 .bf16)
    (old : Vec F S8x128 .f32) : Vec F S8x128 .f32 :=
  k0_pay2 (k0_pay3 x0) (final x0 x1 x3).2.2 (k0_pay13 (final x0 x1 x3).2.1) (k0_pay14 x3) (k0_pay15 x2) (k0_pay16 x3 x2)
    (k0_pay17 x3 x3 x2) (k0_pay18 (final x0 x1 x3).2.1) old

section
variable (𝒱 : Variants) (c : Dev nD) (bd : Option 𝒱.V) (i : grid0.Coords)
  (arg1 : Memref sig .tc .vmem S32x128 .f32) (harg1 : arg1.IsWhole) (arg2 : Memref sig .tc .vmem S256x128 .f32) (harg2 : arg2.IsWhole)
  (arg3 : Memref sig .tc .vmem S256x128 .f32) (harg3 : arg3.IsWhole) (arg4 : Memref sig .tc .vmem S256x4096 .bf16) (harg4 : arg4.IsWhole)
  (arg5 : Memref sig .tc .vmem S8x128 .f32) (harg5 : arg5.IsWhole)
  (x0 : Vec F S32x128 .f32) (x1 : Vec F S256x128 .f32) (x2 : Vec F S256x128 .f32) (x3 : Vec F S256x4096 .bf16) (xo : Vec F S8x128 .f32)

theorem load4 : View.readAt (Elt F) arg4.view (Rect.unit (s := S256x4096) ![0, 0] S256x4096.size inb_S256x4096_S256x4096_0_0).toLoadRect
    (harg4.unread x3) = x3 := (View.readAt_full _ _ _).trans (harg4.read_unread _)

theorem load1 : View.readAt (Elt F) arg1.view (Rect.unit (s := S32x128) ![0, 0] S32x128.size inb_S32x128_S32x128_0_0).toLoadRect
    (harg1.unread x0) = x0 := (View.readAt_full _ _ _).trans (harg1.read_unread _)

theorem load2 : View.readAt (Elt F) arg2.view (Rect.unit (s := S256x128) ![0, 0] S256x128.size inb_S256x128_S256x128_0_0).toLoadRect
    (harg2.unread x1) = x1 := (View.readAt_full _ _ _).trans (harg2.read_unread _)

theorem load5 : View.readAt (Elt F) arg5.view (Rect.unit (s := S8x128) ![0, 0] S8x128.size inb_S8x128_S8x128_0_0).toLoadRect
    (harg5.unread xo) = xo := (View.readAt_full _ _ _).trans (harg5.read_unread _)

/-- One trip of the counted loop is one halving. -/
theorem trip_eq (k : Fin k0_t1_loop.trips) (a : Carry F) :
    tripR_k0_t1 𝒱 c bd i arg1 harg1 arg2 harg2 arg3 harg3 arg4 harg4 arg5 harg5 x0 (harg4.unread x3) k a = step x0 x3 a := by
  unfold tripR_k0_t1 trip_k0_t1
  dsimp only
  have e := load4 arg4 harg4 x3
  unfold step
  exact congrArg (fun w => (k0_pay10 x0 a.1 a.2.1 w, k0_pay11 x0 a.1 a.2.1 w, k0_pay12 x0 a.1 a.2.1 a.2.2 w)) e

theorem trips_eq : k0_t1_loop.trips = 10 := by decide

/-- The loop's trips are that many halvings. -/
theorem st_eq (a : Carry F) (n : ℕ) (hn : n ≤ 10) :
    st_k0_t1 𝒱 c bd i arg1 harg1 arg2 harg2 arg3 harg3 arg4 harg4 arg5 harg5 x0 (harg4.unread x3) a n = (step x0 x3)^[n] a := by
  induction n with
  | zero => exact st_k0_t1_zero ..
  | succ n ih =>
    have h := st_k0_t1_succ (F := F) 𝒱 c bd i arg1 harg1 arg2 harg2 arg3 harg3 arg4 harg4 arg5 harg5 x0 (harg4.unread x3) a
      ⟨n, by rw [trips_eq]; omega⟩
    rw [Function.iterate_succ_apply', ← ih (by omega)]
    exact h.trans (trip_eq ..)

/-- The loop's result from its start. -/
theorem st_final : st_k0_t1 𝒱 c bd i arg1 harg1 arg2 harg2 arg3 harg3 arg4 harg4 arg5 harg5 x0 (harg4.unread x3) (start x0 x1 x3)
    (Scf.trips k0_t1_loop.lb k0_t1_loop.ub k0_t1_loop.st) = final x0 x1 x3 := by
  have h : Scf.trips k0_t1_loop.lb k0_t1_loop.ub k0_t1_loop.st = 10 := trips_eq
  rw [h]
  exact st_eq (hn := le_rfl) ..

/-- What a later point leaves in the output block. -/
theorem out_B (hc0 : ¬cond0_0 i) :
    out0_B_4 c i arg1 harg1 arg2 harg2 arg3 harg3 arg4 harg4 arg5 harg5 hc0 x0 x1 x2 x3 xo = block x0 x1 x2 x3 xo := by
  unfold out0_B_4 kernelRun0_B
  dsimp only
  refine (View.read_writes_full _ _ _ _ _).trans ?_
  unfold kernelRun0_B.sl.r kernelRun0_B.sl.r_1 kernelRun0_B.sl.r_2 kernelRun0_B.sl.r_3 kernelRun0_B.sl.r_4 kernelRun0_B.sl.r_5
    kernelRun0_B.sl.r_6 kernelRun0_B.sl.r_7
  have h := st_final Variants.none c none i arg1 harg1 arg2 harg2 arg3 harg3 arg4 harg4 arg5 harg5 x0 x1 x3
  unfold start at h
  rw [load1 arg1 harg1 x0, load4 arg4 harg4 x3, load2 arg2 harg2 x1, load2 arg3 harg3 x2, h]
  exact congrArg _ (load5 arg5 harg5 xo)

/-- What the first point leaves in the output block. -/
theorem out_A (hc0 : cond0_0 i) :
    out0_A_4 c i arg1 harg1 arg2 harg2 arg3 harg3 arg4 harg4 arg5 harg5 hc0 x0 x1 x2 x3 = block x0 x1 x2 x3 k0_pay1 := by
  unfold out0_A_4 kernelRun0_A
  dsimp only
  refine (View.read_writes_full _ _ _ _ _).trans ?_
  unfold kernelRun0_A.sl.v62 kernelRun0_A.sl.H4_1
  unfold kernelRun0_A.sl.r kernelRun0_A.sl.r_1 kernelRun0_A.sl.r_2 kernelRun0_A.sl.r_3 kernelRun0_A.sl.r_4 kernelRun0_A.sl.r_5
    kernelRun0_A.sl.r_6 kernelRun0_A.sl.r_7
  have h := st_final Variants.none c none i arg1 harg1 arg2 harg2 arg3 harg3 arg4 harg4 arg5 harg5 x0 x1 x3
  unfold start at h
  rw [load1 arg1 harg1 x0, load4 arg4 harg4 x3, load2 arg2 harg2 x1, load2 arg3 harg3 x2, h]
  exact congrArg _ (View.readCov_full _ _ _ _ _)
end

end Cert.LossRun

end
-- ==== Proof.LossMath.lean ====
module

public import Idealize.ShloMosaic.PureOps
public import Idealize.ShloMosaic.Lib.ValueIdx

/-!
  The second call's row, over the reals: a bracket halved around the `K`-th greatest of a row's similarities keeps its counts, and
  the row's loss with the entries of the bracket taken at its upper end is near the loss with the `K` greatest entries.
-/

@[expose] public section

noncomputable section

namespace Cert.LossMath

open Finset

/-- How many entries are above `t`. -/
def above {n : ℕ} (x : Fin n → ℝ) (t : ℝ) : ℝ := ∑ j, if t < x j then 1 else 0

/-- How many entries are at least `t`. -/
def atLeast {n : ℕ} (x : Fin n → ℝ) (t : ℝ) : ℝ := ∑ j, if t ≤ x j then 1 else 0

theorem above_le_atLeast {n : ℕ} (x : Fin n → ℝ) (t : ℝ) : above x t ≤ atLeast x t :=
  sum_le_sum fun j _ => by
    by_cases h : t < x j
    · rw [if_pos h, if_pos h.le]
    · rw [if_neg h]; split <;> norm_num

/-- One halving of a bracket with the count above its upper end. -/
def halve {n : ℕ} (x : Fin n → ℝ) (k : ℝ) (a : ℝ × ℝ × ℝ) : ℝ × ℝ × ℝ :=
  if k ≤ above x (1 / 2 * (a.1 + a.2.1)) then (1 / 2 * (a.1 + a.2.1), a.2.1, a.2.2)
  else (a.1, 1 / 2 * (a.1 + a.2.1), above x (1 / 2 * (a.1 + a.2.1)))

/-- What the halvings keep. -/
structure Bracket {n : ℕ} (x : Fin n → ℝ) (k w : ℝ) (a : ℝ × ℝ × ℝ) : Prop where
  count : a.2.2 = above x a.2.1
  few : a.2.2 < k
  many : k ≤ atLeast x a.1
  width : a.2.1 - a.1 = w

theorem Bracket.halve {n : ℕ} {x : Fin n → ℝ} {k w : ℝ} {a : ℝ × ℝ × ℝ} (h : Bracket x k w a) :
    Bracket x k (w / 2) (halve x k a) := by
  have hw := h.width
  unfold LossMath.halve
  split
  · next hk => exact ⟨h.count, h.few, hk.trans (above_le_atLeast _ _), by show a.2.1 - 1 / 2 * (a.1 + a.2.1) = w / 2; linarith⟩
  · next hk => exact ⟨rfl, not_le.1 hk, h.many, by show 1 / 2 * (a.1 + a.2.1) - a.1 = w / 2; linarith⟩

theorem Bracket.iterate {n : ℕ} {x : Fin n → ℝ} {k w : ℝ} {a : ℝ × ℝ × ℝ} (h : Bracket x k w a) (t : ℕ) :
    Bracket x k (w / 2 ^ t) ((LossMath.halve x k)^[t] a) := by
  induction t with
  | zero => simpa using h
  | succ t ih =>
    rw [Function.iterate_succ_apply', pow_succ, ← div_div]
    exact ih.halve

/-- A count is a number of indices. -/
theorem sum_ite_card {n : ℕ} (p : Fin n → Prop) [DecidablePred p] :
    (∑ j, if p j then (1 : ℝ) else 0) = ((univ.filter p).card : ℝ) := by
  rw [Finset.sum_ite, Finset.sum_const_zero, add_zero, Finset.sum_const, nsmul_eq_mul, mul_one]

/-- Among descending entries, fewer than `K` of them above `t`, those above come before place `K`. -/
theorem lt_of_above {n : ℕ} {y : Fin n → ℝ} (hy : Antitone y) {t : ℝ} {K : ℕ} (h : above y t < K) (i : Fin n) (hi : t < y i) :
    i.val < K := by
  by_contra hc
  have h1 : above y t = ((univ.filter fun j => t < y j).card : ℝ) := sum_ite_card _
  have h2 : (univ.filter fun j : Fin n => j ≤ i) ⊆ univ.filter fun j => t < y j := fun j hj =>
    mem_filter.2 ⟨mem_univ _, hi.trans_le (hy (mem_filter.1 hj).2)⟩
  have h3 := card_le_card h2
  have h4 : (univ.filter fun j : Fin n => j ≤ i).card = i.val + 1 := by
    rw [show (univ.filter fun j : Fin n => j ≤ i) = Iic i from by ext; simp, Fin.card_Iic]
  rw [h1] at h
  have : (univ.filter fun j => t < y j).card < K := by exact_mod_cast h
  omega

/-- Among descending entries, at least `K` of them at least `t`, the first `K` are at least `t`. -/
theorem le_of_atLeast {n : ℕ} {y : Fin n → ℝ} (hy : Antitone y) {t : ℝ} {K : ℕ} (h : (K : ℝ) ≤ atLeast y t) (i : Fin n) (hi : i.val < K) :
    t ≤ y i := by
  by_contra hc
  have h1 : atLeast y t = ((univ.filter fun j => t ≤ y j).card : ℝ) := sum_ite_card _
  have h2 : (univ.filter fun j => t ≤ y j) ⊆ univ.filter fun j : Fin n => j < i := fun j hj =>
    mem_filter.2 ⟨mem_univ _, by
      by_contra hij
      exact hc ((mem_filter.1 hj).2.trans (hy (not_lt.1 hij)))⟩
  have h3 := card_le_card h2
  have h4 : (univ.filter fun j : Fin n => j < i).card = i.val := by
    rw [show (univ.filter fun j : Fin n => j < i) = Iio i from by ext; simp, Fin.card_Iio]
  rw [h1] at h
  have : K ≤ (univ.filter fun j => t ≤ y j).card := by exact_mod_cast h
  omega

/-- The entries above `t` with `K` less their number at `t` are the first `K` of the descending entries, raised to `t`. -/
theorem sum_raised {n : ℕ} {y : Fin n → ℝ} (hy : Antitone y) {t : ℝ} {K : ℕ} (hK : K ≤ n) (h : above y t < K) (f : ℝ → ℝ) :
    (∑ j, if t < y j then f (y j) else 0) + (K - above y t) * f t = ∑ j : Fin n, if j.val < K then f (max (y j) t) else 0 := by
  have hk : (K : ℝ) = ∑ j : Fin n, if j.val < K then (1 : ℝ) else 0 := by
    rw [sum_ite_card]
    have : (univ.filter fun j : Fin n => j.val < K).card = K := by
      rw [Fin.card_filter_val_lt]; omega
    rw [this]
  rw [hk, above, ← sum_sub_distrib, sum_mul, ← sum_add_distrib]
  refine sum_congr rfl fun j _ => ?_
  by_cases h1 : t < y j
  · have h2 := lt_of_above hy h j h1
    rw [if_pos h1, if_pos h1, if_pos h2, if_pos h2, max_eq_left h1.le]; ring
  · rw [if_neg h1, if_neg h1, max_eq_right (not_lt.1 h1)]
    split <;> ring

/-- The loss of a row with its bracket against the loss of the first `K` of the descending entries: `e` is what a fixed
    low entry adds for each place left over. -/
theorem near {n : ℕ} {y : Fin n → ℝ} (hy : Antitone y) {K : ℕ} (hK : K ≤ n) {w T p q b : ℝ} (hT : 0 < T) {a : ℝ × ℝ × ℝ}
    (h : Bracket y K w a) (hw : w / T ≤ b) (h0 : 0 ≤ w) (hq : 0 ≤ q) (hqb : q ≤ b * Real.exp (p / T)) :
    |Real.log ((∑ j, if a.2.1 < y j then Real.exp (y j / T) else 0) + (K - a.2.2) * Real.exp (a.2.1 / T) + Real.exp (p / T))
      - Real.log (Real.exp (p / T) + (∑ j : Fin n, if j.val < K then Real.exp (y j / T) else 0) + q)| ≤ b := by
  have hc := h.count
  rw [hc, sum_raised hy hK (hc ▸ h.few) fun z => Real.exp (z / T)]
  set S := ∑ j : Fin n, if j.val < K then Real.exp (y j / T) else 0 with hS
  set R := ∑ j : Fin n, if j.val < K then Real.exp (max (y j) a.2.1 / T) else 0 with hR
  set P := Real.exp (p / T) with hP
  have hP0 : 0 < P := Real.exp_pos _
  have hS0 : 0 ≤ S := sum_nonneg fun j _ => by split; exacts [(Real.exp_pos _).le, le_rfl]
  have hb0 : 0 ≤ b := (div_nonneg h0 hT.le).trans hw
  have hSR : S ≤ R := sum_le_sum fun j _ => by
    split
    · exact Real.exp_le_exp.2 (div_le_div_of_nonneg_right (le_max_left _ _) hT.le)
    · exact le_rfl
  have hRS : R ≤ S * Real.exp b := by
    rw [hS, sum_mul]
    refine sum_le_sum fun j _ => ?_
    split
    · next hj =>
      have hlo := le_of_atLeast hy h.many j hj
      rw [← Real.exp_add]
      refine Real.exp_le_exp.2 ?_
      have h1 : max (y j) a.2.1 ≤ y j + w := max_le (by linarith) (by have := h.width; linarith)
      calc max (y j) a.2.1 / T ≤ (y j + w) / T := div_le_div_of_nonneg_right h1 hT.le
        _ = y j / T + w / T := add_div _ _ _
        _ ≤ y j / T + b := by linarith
    · simp
  have he : b + 1 ≤ Real.exp b := Real.add_one_le_exp b
  have hA : 0 < R + P := by linarith
  have hB : 0 < P + S + q := by linarith
  rw [abs_sub_le_iff]
  constructor
  · rw [← Real.log_div hA.ne' hB.ne', ← Real.log_exp b]
    refine Real.log_le_log (div_pos hA hB) ?_
    rw [div_le_iff₀ hB]
    have h1 : P ≤ Real.exp b * P := le_mul_of_one_le_left hP0.le (by linarith)
    have h2 : 0 ≤ Real.exp b * q := mul_nonneg (Real.exp_pos b).le hq
    linarith
  · rw [← Real.log_div hB.ne' hA.ne', ← Real.log_exp b]
    refine Real.log_le_log (div_pos hB hA) ?_
    rw [div_le_iff₀ hA]
    have h1 : R ≤ Real.exp b * R := le_mul_of_one_le_left (hS0.trans hSR) (by linarith)
    have h2 : (b + 1) * P ≤ Real.exp b * P := mul_le_mul_of_nonneg_right he hP0.le
    linarith

end Cert.LossMath

end
-- ==== Proof.LossPay.lean ====
module

public import proofs.«01_k».proof.Proof.LossRun
public import proofs.«01_k».proof.Proof.LossMath
public import proofs.«01_k».proof.Proof.Spec

/-!
  What the second call's computations are at an index over the extended reals, when the blocks they read hold reals.
-/

@[expose] public section

noncomputable section

namespace Cert.LossRun

open Idealize.ShloMosaic
open Cert.LossIdeal Cert.LossIdeal.Gen
open Cert.Pose Cert.LossMath

/-! ## The constants -/

/-- The temperature's word as a real. -/
def temp : ℝ := 9395241 * (2 ^ 27)⁻¹

theorem temp_eq : Ideal.ofBits .f32 0x3D8F5C29#32 = (temp : EReal) := by
  rw [temp, EReal.coe_mul]
  simp [Ideal.ofBits, Ideal.ieee]

theorem temp_pos : 0 < temp := by unfold temp; positivity

/-- The lower end of a bracket over the unmasked similarities. -/
def low : ℝ := -(8396997 * (2 ^ 23)⁻¹)

theorem low_eq : Ideal.ofBits .f32 0xBF8020C5#32 = (low : EReal) := by
  rw [low, EReal.coe_neg, EReal.coe_mul]
  simp [Ideal.ofBits, Ideal.ieee]

theorem fill_eq : Ideal.ofBits .f32 0xC1200000#32 = ((-10 : ℝ) : EReal) := by
  have : (-10 : ℝ) = -(10485760 * (2 ^ 20)⁻¹) := by norm_num
  rw [this, EReal.coe_neg, EReal.coe_mul]
  simp [Ideal.ofBits, Ideal.ieee]

theorem half_eq : Ideal.ofBits .f32 0x3F000000#32 = ((1 / 2 : ℝ) : EReal) := by
  have : (1 / 2 : ℝ) = 8388608 * (2 ^ 24)⁻¹ := by norm_num
  rw [this, EReal.coe_mul]
  simp [Ideal.ofBits, Ideal.ieee]

theorem eighth_eq : Ideal.ofBits .f32 0x39000000#32 = ((1 / 8192 : ℝ) : EReal) := by
  have : (1 / 8192 : ℝ) = 8388608 * (2 ^ 36)⁻¹ := by norm_num
  rw [this, EReal.coe_mul]
  simp [Ideal.ofBits, Ideal.ieee]

theorem rowsInv_eq : Ideal.ofBits .f32 0x39800000#32 = ((1 / 4096 : ℝ) : EReal) := by
  have : (1 / 4096 : ℝ) = 8388608 * (2 ^ 35)⁻¹ := by norm_num
  rw [this, EReal.coe_mul]
  simp [Ideal.ofBits, Ideal.ieee]

theorem bottom_eq : Ideal.ofBits .bf16 0xFF80#16 = ⊥ := by
  simp [Ideal.ofBits, Ideal.ieee]

/-! ## Sums and maxima of reals -/

/-- The greatest of a row's entries. -/
def top {n : ℕ} (x : Fin (n + 1) → ℝ) : ℝ := Finset.univ.sup' ⟨0, Finset.mem_univ 0⟩ x

theorem le_top {n : ℕ} (x : Fin (n + 1) → ℝ) (j : Fin (n + 1)) : x j ≤ top x := Finset.le_sup' x (Finset.mem_univ j)

theorem top_mem {n : ℕ} (x : Fin (n + 1) → ℝ) : ∃ j, top x = x j := by
  obtain ⟨j, -, h⟩ := Finset.exists_mem_eq_sup' ⟨0, Finset.mem_univ 0⟩ x
  exact ⟨j, h⟩

/-- A maximum from minus infinity over reals is their greatest. -/
theorem fold_max {n : ℕ} (x : Fin (n + 1) → ℝ) :
    Finset.fold max (⊥ : EReal) (fun j => ((x j : ℝ) : EReal)) Finset.univ = ((top x : ℝ) : EReal) := by
  have h : Finset.fold max (⊥ : EReal) (fun j => ((x j : ℝ) : EReal)) Finset.univ
      = Finset.univ.sup fun j => ((x j : ℝ) : EReal) := rfl
  rw [h]
  refine le_antisymm (Finset.sup_le fun j _ => EReal.coe_le_coe_iff.2 (le_top x j)) ?_
  obtain ⟨j, hj⟩ := top_mem x
  rw [hj]
  exact Finset.le_sup (f := fun j => ((x j : ℝ) : EReal)) (Finset.mem_univ j)

/-- A sum over twice as many places is the sum over the first half of the two halves' entries. -/
theorem sum_halves (n : ℕ) (g : Fin (n + n) → EReal) :
    ∑ j, g j = ∑ j : Fin n, (g ⟨j.val, by omega⟩ + g ⟨n + j.val, by omega⟩) := by
  rw [Fin.sum_univ_add, ← Finset.sum_add_distrib]
  rfl

/-- A logarithm of a positive real, read at the extended reals. -/
theorem log_coe {r : ℝ} (h : 0 < r) : Ideal.log (r : EReal) = (Real.log r : EReal) := by
  show (if r ≤ 0 then (⊥ : EReal) else _) = _
  rw [if_neg (not_le.2 h)]

/-- A choice between two reals. -/
theorem ite_coe (p : Prop) [Decidable p] (a b : ℝ) : (if p then (a : EReal) else b) = ((if p then a else b : ℝ) : EReal) := by
  split <;> rfl

/-- The greater of two reals. -/
theorem max_coe (a b : ℝ) : max (a : EReal) (b : EReal) = ((max a b : ℝ) : EReal) :=
  (EReal.coe_strictMono.monotone.map_max (a := a) (b := b)).symm

/-! ## The body's computations -/

theorem pay3_eq (x : Vec Ideal S32x128 .f32) (s : ℝ) (hs : (∑ a : Fin 32, ∑ b : Fin 128, x (ix2 a b) : EReal) = (s : EReal)) :
    k0_pay3 (F := Ideal) x = ((max 1 (⌊s * (1 / 8192)⌋ : ℝ) : ℝ) : EReal) := by
  pointwise [k0_pay3]
  rw [hs, eighth_eq, ← EReal.coe_mul, ← max_coe]
  rfl

theorem pay4_at (x3 : Vec Ideal S256x4096 .bf16) (r : Fin 256) (x : Fin 4096 → ℝ) (hx : ∀ j, x3 (ix2 r j) = (x j : EReal)) :
    k0_pay4 (F := Ideal) x3 (ix2 r 0) = ((top x : ℝ) : EReal) := by
  pointwise [k0_pay4]
  simp only [hx, bottom_eq]
  exact fold_max x

theorem pay5_at (x0 : Vec Ideal S32x128 .f32) (x1 : Vec Ideal S256x128 .f32) (r : Fin 256) (k n : ℝ)
    (hk : k0_pay3 (F := Ideal) x0 = (k : EReal)) (hn : x1 (ix2 r 0) = (n : EReal)) :
    k0_pay5 (F := Ideal) x0 x1 (ix2 r 0) = ((if k ≤ n then low else -10 : ℝ) : EReal) := by
  pointwise [k0_pay5]
  rw [hk, hn, low_eq, fill_eq, ite_coe]
  simp only [EReal.coe_le_coe_iff]

theorem pay7_at (a b : FVec Ideal S256x1 .f32) (r : Fin 256) (lo hi : ℝ) (ha : a (ix2 r 0) = (lo : EReal)) (hb : b (ix2 r 0) = (hi : EReal)) :
    k0_pay7 (F := Ideal) a b (ix2 r 0) = ((1 / 2 * (lo + hi) : ℝ) : EReal) := by
  pointwise [k0_pay7]
  rw [ha, hb, half_eq, EReal.coe_mul, EReal.coe_add]

theorem pay8_at (a b : FVec Ideal S256x1 .f32) (x3 : Vec Ideal S256x4096 .bf16) (r : Fin 256) (t : ℝ) (x : Fin 4096 → ℝ)
    (ht : k0_pay7 (F := Ideal) a b (ix2 r 0) = (t : EReal)) (hx : ∀ j, x3 (ix2 r j) = (x j : EReal)) :
    k0_pay8 (F := Ideal) a b x3 (ix2 r 0) = ((above x t : ℝ) : EReal) := by
  have h : k0_pay8 (F := Ideal) a b x3 (ix2 r 0)
      = ∑ j : Fin 4096, if k0_pay7 (F := Ideal) a b (ix2 r 0) < x3 (ix2 r j) then (1 : EReal) else 0 := by
    pointwise [k0_pay8]
    symm
    refine (sum_halves 2048 _).trans ((sum_halves 1024 _).trans ((sum_halves 512 _).trans ((sum_halves 256 _).trans (sum_halves 128 _))))
  rw [h, ht, above, ← sum_coe]
  refine Finset.sum_congr rfl fun j _ => ?_
  rw [hx j]
  by_cases hj : t < x j
  · rw [if_pos hj, if_pos (EReal.coe_lt_coe_iff.2 hj)]; rfl
  · rw [if_neg hj, if_neg (fun h => hj (EReal.coe_lt_coe_iff.1 h))]; rfl

/-- A row of the carried columns holds three reals. -/
def Holds (c : Carry Ideal) (r : Fin 256) (a : ℝ × ℝ × ℝ) : Prop :=
  c.1 (ix2 r 0) = (a.1 : EReal) ∧ c.2.1 (ix2 r 0) = (a.2.1 : EReal) ∧ c.2.2 (ix2 r 0) = (a.2.2 : EReal)

theorem step_holds (x0 : Vec Ideal S32x128 .f32) (x3 : Vec Ideal S256x4096 .bf16) (r : Fin 256) (k : ℝ) (x : Fin 4096 → ℝ)
    (hk : k0_pay3 (F := Ideal) x0 = (k : EReal)) (hx : ∀ j, x3 (ix2 r j) = (x j : EReal)) (c : Carry Ideal) (a : ℝ × ℝ × ℝ)
    (h : Holds c r a) : Holds (step x0 x3 c) r (halve x k a) := by
  have h7 := pay7_at c.1 c.2.1 r a.1 a.2.1 h.1 h.2.1
  have h8 := pay8_at c.1 c.2.1 x3 r _ x h7 hx
  have e10 : k0_pay10 (F := Ideal) x0 c.1 c.2.1 x3 (ix2 r 0)
      = if k0_pay3 (F := Ideal) x0 ≤ k0_pay8 (F := Ideal) c.1 c.2.1 x3 (ix2 r 0) then k0_pay7 (F := Ideal) c.1 c.2.1 (ix2 r 0) else c.1 (ix2 r 0) := by
    pointwise [k0_pay10, k0_pay9]
  have e11 : k0_pay11 (F := Ideal) x0 c.1 c.2.1 x3 (ix2 r 0)
      = if k0_pay3 (F := Ideal) x0 ≤ k0_pay8 (F := Ideal) c.1 c.2.1 x3 (ix2 r 0) then c.2.1 (ix2 r 0) else k0_pay7 (F := Ideal) c.1 c.2.1 (ix2 r 0) := by
    pointwise [k0_pay11, k0_pay9]
  have e12 : k0_pay12 (F := Ideal) x0 c.1 c.2.1 c.2.2 x3 (ix2 r 0)
      = if k0_pay3 (F := Ideal) x0 ≤ k0_pay8 (F := Ideal) c.1 c.2.1 x3 (ix2 r 0) then c.2.2 (ix2 r 0) else k0_pay8 (F := Ideal) c.1 c.2.1 x3 (ix2 r 0) := by
    pointwise [k0_pay12, k0_pay9]
  rw [hk, h8, h7] at e10 e11
  rw [hk, h8] at e12
  rw [h.1] at e10
  rw [h.2.1] at e11
  rw [h.2.2] at e12
  unfold Holds step halve
  by_cases hc : k ≤ above x (1 / 2 * (a.1 + a.2.1))
  · have hc' := EReal.coe_le_coe_iff.2 hc
    rw [if_pos hc'] at e10 e11 e12
    rw [if_pos hc]
    exact ⟨e10, e11, e12⟩
  · have hc' := fun h => hc (EReal.coe_le_coe_iff.1 h)
    rw [if_neg hc'] at e10 e11 e12
    rw [if_neg hc]
    exact ⟨e10, e11, e12⟩

/-- The bracket after the halvings, row by row. -/
theorem final_holds (x0 : Vec Ideal S32x128 .f32) (x1 : Vec Ideal S256x128 .f32) (x3 : Vec Ideal S256x4096 .bf16) (r : Fin 256) (k n : ℝ)
    (x : Fin 4096 → ℝ) (hk : k0_pay3 (F := Ideal) x0 = (k : EReal)) (hn : x1 (ix2 r 0) = (n : EReal)) (hx : ∀ j, x3 (ix2 r j) = (x j : EReal)) :
    Holds (final x0 x1 x3) r ((halve x k)^[10] (if k ≤ n then low else -10, top x, 0)) := by
  have h0 : Holds (start x0 x1 x3) r (if k ≤ n then low else -10, top x, 0) := by
    have h5 := pay5_at x0 x1 r k n hk hn
    have h4 := pay4_at x3 r x hx
    have h6 : k0_pay6 (F := Ideal) (ix2 r 0) = ((0 : ℝ) : EReal) := by pointwise [k0_pay6]; rfl
    unfold Holds start
    dsimp only
    exact ⟨h5, h4, h6⟩
  unfold final
  generalize 10 = t
  induction t with
  | zero => exact h0
  | succ t ih =>
    rw [Function.iterate_succ_apply', Function.iterate_succ_apply']
    exact step_holds x0 x3 r k x hk hx _ _ ih

/-- A row's loss from its bracket. -/
def rowLoss (x : Fin 4096 → ℝ) (k p : ℝ) (a : ℝ × ℝ × ℝ) : ℝ :=
  Real.log ((∑ j, if a.2.1 < x j then Real.exp ((x j - max p (top x)) / temp) else 0)
    + (k - a.2.2) * Real.exp ((a.2.1 - max p (top x)) / temp) + Real.exp ((p - max p (top x)) / temp)) + (max p (top x) - p) / temp

/-- The output block after a point: the block before it with the point's row losses over the number of rows. -/
theorem block_at (x0 : Vec Ideal S32x128 .f32) (x1 x2 : Vec Ideal S256x128 .f32) (x3 : Vec Ideal S256x4096 .bf16) (o : Vec Ideal S8x128 .f32)
    (k : ℝ) (n p : Fin 256 → ℝ) (x : Fin 256 → Fin 4096 → ℝ) (hk : k0_pay3 (F := Ideal) x0 = (k : EReal))
    (hn : ∀ r, x1 (ix2 r 0) = (n r : EReal)) (hp : ∀ r, x2 (ix2 r 0) = (p r : EReal)) (hx : ∀ r j, x3 (ix2 r j) = (x r j : EReal))
    (a : Fin 256 → ℝ × ℝ × ℝ) (ha : ∀ r, a r = (halve (x r) k)^[10] (if k ≤ n r then low else -10, top (x r), 0)) (hc : ∀ r, (a r).2.2 ≤ k)
    (s : Fin 8) (l : Fin 128) :
    block (F := Ideal) x0 x1 x2 x3 o (ix2 s l) = o (ix2 s l) + (((∑ r, rowLoss (x r) k (p r) (a r)) * (1 / 4096) : ℝ) : EReal) := by
  have hf : ∀ r, Holds (final x0 x1 x3) r (a r) := fun r => by rw [ha r]; exact final_holds x0 x1 x3 r k (n r) (x r) hk (hn r) (hx r)
  have h4 : ∀ r, k0_pay4 (F := Ideal) x3 (ix2 r 0) = ((top (x r) : ℝ) : EReal) := fun r => pay4_at x3 r (x r) (hx r)
  unfold block
  generalize final x0 x1 x3 = b at hf ⊢
  have h13 : ∀ r, k0_pay13 (F := Ideal) b.2.1 (ix2 r 0) = ((a r).2.1 : EReal) := fun r => by
    pointwise [k0_pay13]
    exact (hf r).2.1
  have h18 : ∀ r j, k0_pay18 (F := Ideal) b.2.1 (ix2 r j) = ((a r).2.1 : EReal) := fun r j => by
    pointwise [k0_pay18, k0_pay13]
    exact (hf r).2.1
  have h15 : ∀ r, k0_pay15 (F := Ideal) x2 (ix2 r 0) = (p r : EReal) := fun r => by
    pointwise [k0_pay15]
    exact hp r
  have h14 : ∀ r j, k0_pay14 (F := Ideal) x3 (ix2 r j) = (x r j : EReal) := fun r j => by
    pointwise [k0_pay14]
    exact hx r j
  have h16 : ∀ r, k0_pay16 (F := Ideal) x3 x2 (ix2 r 0) = ((max (p r) (top (x r)) : ℝ) : EReal) := fun r => by
    pointwise [k0_pay16]
    rw [h15, h4, max_coe]
  have h17 : ∀ r j, k0_pay17 (F := Ideal) x3 x3 x2 (ix2 r j) = ((Real.exp ((x r j - max (p r) (top (x r))) / temp) : ℝ) : EReal) := fun r j => by
    pointwise [k0_pay17]
    rw [h14, h16, temp_eq, ← EReal.coe_sub, div_coe _ _ temp_pos.ne']
    rfl
  have h2 : ∀ r, (b.2.2 : FVec Ideal S256x1 .f32) (ix2 r 0) = ((a r).2.2 : EReal) := fun r => (hf r).2.2
  pointwise [k0_pay2]
  refine congrArg (o (ix2 s l) + ·) ?_
  rw [EReal.coe_mul, rowsInv_eq, ← sum_coe]
  refine congrArg (· * ((1 / 4096 : ℝ) : EReal)) (Finset.sum_congr rfl fun r _ => ?_)
  simp only [Fin.sum_univ_one, Fin.isValue, h18, h14, h17, h2, h13, h16, h15, hk, temp_eq]
  have hs : (∑ j, if ((a r).2.1 : EReal) < (x r j : EReal) then ((Real.exp ((x r j - max (p r) (top (x r))) / temp) : ℝ) : EReal) else 0)
      = ((∑ j, if (a r).2.1 < x r j then Real.exp ((x r j - max (p r) (top (x r))) / temp) else 0 : ℝ) : EReal) := by
    rw [← sum_coe]
    refine Finset.sum_congr rfl fun j _ => ?_
    simp only [EReal.coe_lt_coe_iff]
    exact ite_coe _ _ 0
  simp only [← EReal.coe_sub, div_coe _ _ temp_pos.ne', exp_coe]
  rw [hs, ← EReal.coe_mul, ← EReal.coe_add, ← EReal.coe_add, log_coe, ← EReal.coe_add]
  · rfl
  · refine add_pos_of_nonneg_of_pos (add_nonneg (Finset.sum_nonneg fun j _ => ?_) (mul_nonneg (sub_nonneg.2 (hc r)) (Real.exp_pos _).le)) (Real.exp_pos _)
    split
    · exact (Real.exp_pos _).le
    · exact le_rfl

end Cert.LossRun

end
-- ==== Proof.LossVal.lean ====
module

public import proofs.«01_k».proof.Proof.LossPay
public import proofs.«01_k».proof.Proof.Gen.LossIdeal.Value
public import Idealize.ShloMosaic.Lib.Pipeline.ValueKit

/-!
  What the second call's result array holds at an index over the extended reals, when its arguments hold reals: the
  mean of the rows' losses, each from its row's bracket.
-/

@[expose] public section

noncomputable section

namespace Cert.LossRun

open Idealize.ShloMosaic Idealize.ShloMosaic.TcCoe
open Cert.LossIdeal Cert.LossIdeal.Gen
open Cert.Pose Cert.LossMath

variable (m : (ℓ : Loc nD τ sig) → Buf (Elt Ideal) ℓ)

theorem points (t : Fin cfg0.N) : t.val < 16 := by
  have h : t.val < grid0.N := t.isLt
  rwa [N_0] at h

/-- Each point reads its own block of 256 rows. -/
theorem index1 : ∀ t : Fin cfg0.N, win0_1.index t 0 = t.val := by decide +kernel

theorem index2 : ∀ t : Fin cfg0.N, win0_2.index t 0 = t.val := by decide +kernel

theorem index3 : ∀ t : Fin cfg0.N, win0_3.index t 0 = t.val := by decide +kernel

/-- A row of the point's block among all rows. -/
def rowOf (t : Fin cfg0.N) (r : Fin 256) : Fin 4096 := ⟨256 * t.val + r.val, by have := points t; omega⟩

/-- The block of counts at an index. -/
theorem blk1 (c : Dev nD) (t : Fin cfg0.N) (r : Fin 256) (l : Fin 128) :
    (iblk m c 1 t : Vec Ideal S256x128 .f32) (ix2 r l) = m ((c.tc : Thread nD τ).loc main_arg1) (ix2 (rowOf t r) l) := by
  have i0 := index1 t
  have e0 : ((win0_1.blk t).view.emb (ix2 r l) 0 : Nat) = t.val * 256 + r.val := by
    rw [← i0]; exact win0_1.rect_emb_val t (ix2 r l) 0
  have e1 : ((win0_1.blk t).view.emb (ix2 r l) 1 : Nat) = l.val := by
    have := win0_1.rect_emb_val t (ix2 r l) 1
    rw [show win0_1.index t 1 = 0 from rfl] at this
    exact this.trans (by show 0 * 128 + l.val = l.val; omega)
  blk_simp [iblk]
  entry_read
  pointwise
  refine congrArg (m ((c.tc : Thread nD τ).loc main_arg1)) (funext fun a => Fin.ext ?_)
  match a with
  | ⟨0, _⟩ =>
    show ((win0_1.blk t).view.emb (ix2 r l) 0 : Nat) = 256 * t.val + r.val
    rw [e0]; omega
  | ⟨1, _⟩ => exact e1

/-- The block of positives at an index. -/
theorem blk2 (c : Dev nD) (t : Fin cfg0.N) (r : Fin 256) (l : Fin 128) :
    (iblk m c 2 t : Vec Ideal S256x128 .f32) (ix2 r l) = m ((c.tc : Thread nD τ).loc main_arg2) (ix2 (rowOf t r) l) := by
  have i0 := index2 t
  have e0 : ((win0_2.blk t).view.emb (ix2 r l) 0 : Nat) = t.val * 256 + r.val := by
    rw [← i0]; exact win0_2.rect_emb_val t (ix2 r l) 0
  have e1 : ((win0_2.blk t).view.emb (ix2 r l) 1 : Nat) = l.val := by
    have := win0_2.rect_emb_val t (ix2 r l) 1
    rw [show win0_2.index t 1 = 0 from rfl] at this
    exact this.trans (by show 0 * 128 + l.val = l.val; omega)
  blk_simp [iblk]
  entry_read
  pointwise
  refine congrArg (m ((c.tc : Thread nD τ).loc main_arg2)) (funext fun a => Fin.ext ?_)
  match a with
  | ⟨0, _⟩ =>
    show ((win0_2.blk t).view.emb (ix2 r l) 0 : Nat) = 256 * t.val + r.val
    rw [e0]; omega
  | ⟨1, _⟩ => exact e1

/-- The block of similarities at an index. -/
theorem blk3 (c : Dev nD) (t : Fin cfg0.N) (r : Fin 256) (j : Fin 4096) :
    (iblk m c 3 t : Vec Ideal S256x4096 .bf16) (ix2 r j) = m ((c.tc : Thread nD τ).loc main_arg0) (ix2 (rowOf t r) j) := by
  have i0 := index3 t
  have e0 : ((win0_3.blk t).view.emb (ix2 r j) 0 : Nat) = t.val * 256 + r.val := by
    rw [← i0]; exact win0_3.rect_emb_val t (ix2 r j) 0
  have e1 : ((win0_3.blk t).view.emb (ix2 r j) 1 : Nat) = j.val := by
    have := win0_3.rect_emb_val t (ix2 r j) 1
    rw [show win0_3.index t 1 = 0 from rfl] at this
    exact this.trans (by show 0 * 4096 + j.val = j.val; omega)
  blk_simp [iblk]
  entry_read
  pointwise
  refine congrArg (m ((c.tc : Thread nD τ).loc main_arg0)) (funext fun a => Fin.ext ?_)
  match a with
  | ⟨0, _⟩ =>
    show ((win0_3.blk t).view.emb (ix2 r j) 0 : Nat) = 256 * t.val + r.val
    rw [e0]; omega
  | ⟨1, _⟩ => exact e1

/-- The table of all counts at an index: the counts' first column, 128 to a row. -/
theorem blk0 (c : Dev nD) (t : Fin cfg0.N) (a : Fin 32) (b : Fin 128) :
    (iblk m c 0 t : Vec Ideal S32x128 .f32) (ix2 a b)
      = m ((c.tc : Thread nD τ).loc main_arg1) (ix2 ⟨128 * a.val + b.val, by omega⟩ 0) := by
  have e0 : ((win0_0.blk t).view.emb (ix2 a b) 0 : Nat) = a.val := by
    have := win0_0.rect_emb_val t (ix2 a b) 0
    rw [show win0_0.index t 0 = 0 from rfl] at this
    exact this.trans (by show 0 * 32 + a.val = a.val; omega)
  have e1 : ((win0_0.blk t).view.emb (ix2 a b) 1 : Nat) = b.val := by
    have := win0_0.rect_emb_val t (ix2 a b) 1
    rw [show win0_0.index t 1 = 0 from rfl] at this
    exact this.trans (by show 0 * 128 + b.val = b.val; omega)
  blk_simp [iblk]
  entry_read
  pointwise
  refine congrArg (m ((c.tc : Thread nD τ).loc main_arg1)) (funext fun d => Fin.ext ?_)
  match d with
  | ⟨0, _⟩ =>
    show ((win0_0.blk t).view.emb (ix2 a b) 0 : Nat) * 128 + ((win0_0.blk t).view.emb (ix2 a b) 1 : Nat) = 128 * a.val + b.val
    rw [e0, e1]; omega
  | ⟨1, _⟩ => rfl

/-- The arguments that device `c` holds are reals. -/
structure Data (c : Dev nD) (x : Fin 4096 → Fin 4096 → ℝ) (n p : Fin 4096 → ℝ) : Prop where
  sims : ∀ i j, m ((c.tc : Thread nD τ).loc main_arg0) (ix2 i j) = (x i j : EReal)
  counts : ∀ i, m ((c.tc : Thread nD τ).loc main_arg1) (ix2 i 0) = (n i : EReal)
  positives : ∀ i, m ((c.tc : Thread nD τ).loc main_arg2) (ix2 i 0) = (p i : EReal)

/-- The number of negatives that the call keeps per row. -/
def kept (n : Fin 4096 → ℝ) : ℝ := max 1 (⌊(∑ i, n i) * (1 / 8192)⌋ : ℝ)

/-- A row's bracket after the halvings. -/
def ends (x : Fin 4096 → Fin 4096 → ℝ) (n : Fin 4096 → ℝ) (i : Fin 4096) : ℝ × ℝ × ℝ :=
  (halve (x i) (kept n))^[10] (if kept n ≤ n i then low else -10, top (x i), 0)

/-- A sum over tiles of consecutive places. -/
theorem sum_tiles {M : Type*} [AddCommMonoid M] (A B : ℕ) (f : Fin (A * B) → M) :
    ∑ i, f i = ∑ a : Fin A, ∑ b : Fin B, f (finProdFinEquiv (a, b)) := by
  rw [← Fintype.sum_prod_type', ← finProdFinEquiv.sum_comp]

variable {m}

theorem kept_at {c : Dev nD} {x : Fin 4096 → Fin 4096 → ℝ} {n p : Fin 4096 → ℝ} (D : Data m c x n p) (t : Fin cfg0.N) :
    k0_pay3 (F := Ideal) (iblk m c 0 t) = (kept n : EReal) := by
  refine pay3_eq _ _ ?_
  rw [← sum_coe, sum_tiles 32 128 (fun i => ((n i : ℝ) : EReal))]
  refine Finset.sum_congr rfl fun a _ => Finset.sum_congr rfl fun b _ => ?_
  rw [blk0 m c t a b, D.counts]
  refine congrArg (fun i => ((n i : ℝ) : EReal)) (Fin.ext ?_)
  show 128 * a.val + b.val = b.val + 128 * a.val
  omega

/-- One point's share. -/
def share (x : Fin 4096 → Fin 4096 → ℝ) (n p : Fin 4096 → ℝ) (t : Fin 16) : ℝ :=
  (∑ r : Fin 256, rowLoss (x ⟨256 * t.val + r.val, by omega⟩) (kept n) (p ⟨256 * t.val + r.val, by omega⟩) (ends x n ⟨256 * t.val + r.val, by omega⟩)) * (1 / 4096)

theorem block_point {c : Dev nD} {x : Fin 4096 → Fin 4096 → ℝ} {n p : Fin 4096 → ℝ} (D : Data m c x n p)
    (hc : ∀ i, (ends x n i).2.2 ≤ kept n) (t : Fin cfg0.N) (o : Vec Ideal S8x128 .f32) (s : Fin 8) (l : Fin 128) :
    block (F := Ideal) (iblk m c 0 t) (iblk m c 1 t) (iblk m c 2 t) (iblk m c 3 t) o (ix2 s l)
      = o (ix2 s l) + (share x n p ⟨t.val, points t⟩ : EReal) :=
  block_at (iblk m c 0 t) (iblk m c 1 t) (iblk m c 2 t) (iblk m c 3 t) o (kept n) (fun r => n (rowOf t r)) (fun r => p (rowOf t r))
    (fun r => x (rowOf t r)) (kept_at D t) (fun r => (blk1 m c t r 0).trans (D.counts _)) (fun r => (blk2 m c t r 0).trans (D.positives _))
    (fun r j => (blk3 m c t r j).trans (D.sims _ _)) (fun r => ends x n (rowOf t r)) (fun r => rfl) (fun r => hc _) s l

/-- What the points up to `t` have added up. -/
theorem outs_at {c : Dev nD} {x : Fin 4096 → Fin 4096 → ℝ} {n p : Fin 4096 → ℝ} (D : Data m c x n p)
    (hc : ∀ i, (ends x n i).2.2 ≤ kept n) (s : Fin 8) (l : Fin 128) :
    ∀ (t : ℕ) (ht : t < cfg0.N), (outsAt0 m c t ht : Vec Ideal S8x128 .f32) (ix2 s l)
      = ((∑ u : Fin (t + 1), share x n p ⟨u.val, by have := points ⟨t, ht⟩; have := u.isLt; simp only at *; omega⟩ : ℝ) : EReal)
  | 0, ht => by
    rw [outsAt0_A m c ⟨0, ht⟩ rfl, out_A]
    refine (block_point D hc ⟨0, ht⟩ _ s l).trans ?_
    have h1 : k0_pay1 (F := Ideal) (ix2 s l) = 0 := by pointwise [k0_pay1]
    rw [h1, zero_add, Fin.sum_univ_one]
    rfl
  | t + 1, ht => by
    have hlt := points ⟨t + 1, ht⟩
    have ih := outs_at D hc s l t (Nat.lt_of_succ_lt ht)
    rw [outsAt0_B m c ⟨t + 1, ht⟩ (by show ¬(t + 1) % 16 = 0; simp only at hlt; omega), out_B]
    refine (block_point D hc ⟨t + 1, ht⟩ _ s l).trans ?_
    show outsAt0 m c t _ (ix2 s l) + _ = _
    rw [ih, ← EReal.coe_add, Fin.sum_univ_castSucc (n := t + 1)]
    rfl

/-- The mean of the rows' losses. -/
def meanLoss (x : Fin 4096 → Fin 4096 → ℝ) (n p : Fin 4096 → ℝ) : ℝ :=
  (∑ i, rowLoss (x i) (kept n) (p i) (ends x n i)) * (1 / 4096)

theorem sum_shares (x : Fin 4096 → Fin 4096 → ℝ) (n p : Fin 4096 → ℝ) : ∑ t : Fin 16, share x n p t = meanLoss x n p := by
  unfold share meanLoss
  rw [← Finset.sum_mul, sum_tiles 16 256 (fun i => rowLoss (x i) (kept n) (p i) (ends x n i))]
  refine congrArg (· * (1 / 4096 : ℝ)) (Finset.sum_congr rfl fun a _ => Finset.sum_congr rfl fun b _ => ?_)
  refine congrArg (fun i => rowLoss (x i) (kept n) (p i) (ends x n i)) (Fin.ext ?_)
  show 256 * a.val + b.val = b.val + 256 * a.val
  omega

/-- The last point. -/
def lastPt : Fin cfg0.N := ⟨15, by show 15 < grid0.N; rw [N_0]; omega⟩

/-- The result array after the run. -/
theorem final_at {c : Dev nD} {x : Fin 4096 → Fin 4096 → ℝ} {n p : Fin 4096 → ℝ} (D : Data m c x n p)
    (hc : ∀ i, (ends x n i).2.2 ≤ kept n) (s : Fin 8) (l : Fin 128) :
    ((dats m 0 c).arrAt 4 cfg0.N : Vec Ideal S8x128 .f32) (ix2 s l) = (meanLoss x n p : EReal) := by
  refine ((dats m 0 c).arrAt_emb_eq_after_last 4 lastPt (by decide +kernel) (ix2 s l)).trans ?_
  blk_simp
  rw [after0_4]
  refine (outs_at D hc s l 15 lastPt.isLt).trans ?_
  rw [← sum_shares]

end Cert.LossRun

end
-- ==== Proof.LossBound.lean ====
module

public import proofs.«01_k».proof.Proof.LossPay

/-!
  The distance between a row's loss from its bracket and its loss from its sorted similarities, over the reals.
-/

@[expose] public section

noncomputable section

namespace Cert.LossRun

open Cert.LossMath

/-- The bound for a row with enough unmasked negatives. -/
def tight : ℝ := 16106127 * (2 ^ 29)⁻¹

/-- The bound for any other row. -/
def loose : ℝ := 10737418 * (2 ^ 26)⁻¹

/-- The loss of a row whose similarities, the greatest first, are `y`, of which the first `K` are kept. -/
def sortedLoss (y : Fin 4096 → ℝ) (K : ℕ) (p : ℝ) : ℝ :=
  Real.log (Real.exp (p / temp) + ∑ i : Fin 4095, if i.val < K then Real.exp (y i.castSucc / temp) else Real.exp (-10 / temp)) - p / temp

/-- The bracket's loss with the common factor taken out. -/
theorem rowLoss_eq (x : Fin 4096 → ℝ) (k p : ℝ) (a : ℝ × ℝ × ℝ) (hc : a.2.2 ≤ k) :
    rowLoss x k p a = Real.log ((∑ j, if a.2.1 < x j then Real.exp (x j / temp) else 0) + (k - a.2.2) * Real.exp (a.2.1 / temp) + Real.exp (p / temp)) - p / temp := by
  unfold rowLoss
  set M := max p (top x)
  have e : ∀ z : ℝ, Real.exp ((z - M) / temp) = Real.exp (z / temp) * Real.exp (-(M / temp)) := fun z => by
    rw [← Real.exp_add]; congr 1; ring
  have hs : (∑ j, if a.2.1 < x j then Real.exp ((x j - M) / temp) else 0)
      = (∑ j, if a.2.1 < x j then Real.exp (x j / temp) else 0) * Real.exp (-(M / temp)) := by
    rw [Finset.sum_mul]
    refine Finset.sum_congr rfl fun j _ => ?_
    split
    · exact e _
    · rw [zero_mul]
  have hpos : 0 < (∑ j, if a.2.1 < x j then Real.exp (x j / temp) else 0) + (k - a.2.2) * Real.exp (a.2.1 / temp) + Real.exp (p / temp) := by
    refine add_pos_of_nonneg_of_pos (add_nonneg (Finset.sum_nonneg fun j _ => ?_) (mul_nonneg (sub_nonneg.2 hc) (Real.exp_pos _).le)) (Real.exp_pos _)
    split
    · exact (Real.exp_pos _).le
    · exact le_rfl
  have h : (∑ j, if a.2.1 < x j then Real.exp ((x j - M) / temp) else 0) + (k - a.2.2) * Real.exp ((a.2.1 - M) / temp) + Real.exp ((p - M) / temp)
      = ((∑ j, if a.2.1 < x j then Real.exp (x j / temp) else 0) + (k - a.2.2) * Real.exp (a.2.1 / temp) + Real.exp (p / temp)) * Real.exp (-(M / temp)) := by
    rw [hs, e, e]; ring
  rw [h, Real.log_mul hpos.ne' (Real.exp_pos _).ne', Real.log_exp]
  ring

/-- Reordering a row keeps its brackets. -/
theorem Bracket.reorder {x : Fin 4096 → ℝ} {k w : ℝ} {a : ℝ × ℝ × ℝ} (h : Bracket x k w a) (σ : Fin 4096 ≃ Fin 4096) :
    Bracket (fun j => x (σ j)) k w a := by
  have e1 : ∀ t, above (fun j => x (σ j)) t = above x t := fun t => σ.sum_comp fun j => if t < x j then (1 : ℝ) else 0
  have e2 : ∀ t, atLeast (fun j => x (σ j)) t = atLeast x t := fun t => σ.sum_comp fun j => if t ≤ x j then (1 : ℝ) else 0
  exact ⟨by rw [e1]; exact h.count, h.few, by rw [e2]; exact h.many, h.width⟩

/-- A row's greatest entry and an end below enough entries are a bracket. -/
theorem bracket_start {n : ℕ} (x : Fin (n + 1) → ℝ) (k lo : ℝ) (hk : 0 < k) (h : k ≤ atLeast x lo) : Bracket x k (top x - lo) (lo, top x, 0) where
  count := by
    show (0 : ℝ) = above x (top x)
    refine (Finset.sum_eq_zero fun j _ => ?_).symm
    rw [if_neg (not_lt.2 (le_top x j))]
  few := hk
  many := h
  width := rfl

theorem width_nonneg {n : ℕ} (x : Fin (n + 1) → ℝ) (k lo : ℝ) (hk : 0 < k) (h : k ≤ atLeast x lo) : 0 ≤ top x - lo := by
  by_contra hc
  have h0 : atLeast x lo = 0 := Finset.sum_eq_zero fun j _ => by
    rw [if_neg (not_le.2 ((le_top x j).trans_lt (by linarith)))]
  rw [h0] at h
  linarith

/-- Masked entries weigh nothing beside the positive one. -/
theorem masked_small {p b : ℝ} (hp : -1 ≤ p) (hb : 1 / 100 ≤ b) (q : ℝ) (hq : q ≤ 4096 * Real.exp (-10 / temp)) : q ≤ b * Real.exp (p / temp) := by
  have h1 : (128 : ℝ) ≤ 9 / temp := by
    rw [le_div_iff₀ temp_pos]; unfold temp; norm_num
  have h2 : (2 : ℝ) ^ 128 ≤ Real.exp (9 / temp) := by
    refine le_trans ?_ (Real.exp_le_exp.2 h1)
    have h3 : (2 : ℝ) ≤ Real.exp 1 := by
      have := Real.add_one_le_exp (1 : ℝ); linarith
    calc (2 : ℝ) ^ 128 ≤ Real.exp 1 ^ 128 := pow_le_pow_left₀ (by norm_num) h3 128
      _ = Real.exp 128 := by rw [← Real.exp_nat_mul]; norm_num
  have h4 : Real.exp (-1 / temp) ≤ Real.exp (p / temp) := Real.exp_le_exp.2 (div_le_div_of_nonneg_right hp temp_pos.le)
  have h5 : Real.exp (-1 / temp) = Real.exp (-10 / temp) * Real.exp (9 / temp) := by
    rw [← Real.exp_add]; congr 1; ring
  have h6 : (4096 : ℝ) ≤ b * Real.exp (9 / temp) := by
    calc (4096 : ℝ) ≤ 1 / 100 * 2 ^ 128 := by norm_num
      _ ≤ b * Real.exp (9 / temp) := mul_le_mul hb h2 (by positivity) (by linarith)
  calc q ≤ 4096 * Real.exp (-10 / temp) := hq
    _ ≤ b * Real.exp (9 / temp) * Real.exp (-10 / temp) := mul_le_mul_of_nonneg_right h6 (Real.exp_pos _).le
    _ = b * Real.exp (-1 / temp) := by rw [h5]; ring
    _ ≤ b * Real.exp (p / temp) := mul_le_mul_of_nonneg_left h4 (by linarith)

/-- A row of masked cosines. -/
structure RowOk (x : Fin 4096 → ℝ) (n p : ℝ) : Prop where
  entry : ∀ j, |x j| ≤ 1 ∨ x j = -10
  count : n = ∑ j, if -10 < x j then (1 : ℝ) else 0
  pos : |p| ≤ 1

theorem top_le {x : Fin 4096 → ℝ} {n p : ℝ} (h : RowOk x n p) : top x ≤ 1 := by
  obtain ⟨j, hj⟩ := top_mem x
  rw [hj]
  rcases h.entry j with h | h
  · exact (abs_le.1 h).2
  · rw [h]; norm_num

/-- The first end has enough entries above it. -/
theorem many_start {x : Fin 4096 → ℝ} {n p k : ℝ} (h : RowOk x n p) (hk : k ≤ 4096) : k ≤ atLeast x (if k ≤ n then low else -10) := by
  split
  · next hn =>
    refine hn.trans ?_
    rw [h.count]
    refine Finset.sum_le_sum fun j _ => ?_
    rcases h.entry j with hj | hj
    · rw [if_pos (le_trans (by unfold low; norm_num) (abs_le.1 hj).1 : low ≤ x j)]
      split <;> norm_num
    · rw [if_neg (by rw [hj]; norm_num)]
      split <;> norm_num
  · refine hk.trans (le_of_eq ?_)
    have : ∀ j, (-10 : ℝ) ≤ x j := fun j => by
      rcases h.entry j with hj | hj
      · linarith [(abs_le.1 hj).1]
      · exact hj.ge
    unfold atLeast
    simp only [this, if_true, Finset.sum_const, Finset.card_univ, Fintype.card_fin, nsmul_eq_mul, mul_one]
    norm_num

theorem ends_bracket {x : Fin 4096 → ℝ} {n p k : ℝ} (h : RowOk x n p) (h1 : 0 < k) (h2 : k ≤ 4096) :
    Bracket x k ((top x - (if k ≤ n then low else -10)) / 2 ^ 10) ((halve x k)^[10] (if k ≤ n then low else -10, top x, 0)) :=
  (bracket_start x k _ h1 (many_start h h2)).iterate 10

/-- THE BOUND OF A ROW. -/
theorem row_near {x : Fin 4096 → ℝ} {n p : ℝ} (h : RowOk x n p) {K : ℕ} (h1 : 1 ≤ K) (h2 : K ≤ 4095) (σ : Fin 4096 ≃ Fin 4096)
    (hσ : Antitone fun j => x (σ j)) :
    |rowLoss x K p ((halve x K)^[10] (if (K : ℝ) ≤ n then low else -10, top x, 0)) - sortedLoss (fun j => x (σ j)) K p|
      ≤ if (K : ℝ) ≤ n then tight else loose := by
  have k1 : (0 : ℝ) < K := by exact_mod_cast h1
  have k2 : (K : ℝ) ≤ 4096 := by exact_mod_cast h2.trans (by norm_num)
  have hb := ends_bracket h k1 k2
  have hw0 := width_nonneg x K _ k1 (many_start h k2)
  have ht := top_le h
  have hlow : low = -(8396997 * (2 ^ 23)⁻¹) := rfl
  have htemp : temp = 9395241 * (2 ^ 27)⁻¹ := rfl
  set a := (halve x K)^[10] (if (K : ℝ) ≤ n then low else -10, top x, 0)
  have hw : (top x - (if (K : ℝ) ≤ n then low else -10)) / 2 ^ 10 / temp ≤ if (K : ℝ) ≤ n then tight else loose := by
    rw [div_le_iff₀ temp_pos]
    split
    · unfold tight; rw [hlow, htemp]; norm_num; linarith
    · unfold loose; rw [htemp]; norm_num; linarith
  have hB : (1 / 100 : ℝ) ≤ if (K : ℝ) ≤ n then tight else loose := by
    split
    · unfold tight; norm_num
    · unfold loose; norm_num
  set y : Fin 4096 → ℝ := fun j => x (σ j)
  set q : ℝ := ∑ i : Fin 4095, if i.val < K then (0 : ℝ) else Real.exp (-10 / temp) with hqd
  have hq0 : 0 ≤ q := Finset.sum_nonneg fun i _ => by
    split
    · exact le_rfl
    · exact (Real.exp_pos _).le
  have hq1 : q ≤ 4096 * Real.exp (-10 / temp) := by
    calc q ≤ ∑ _i : Fin 4095, Real.exp (-10 / temp) := Finset.sum_le_sum fun i _ => by
          split
          · exact (Real.exp_pos _).le
          · exact le_rfl
      _ = 4095 * Real.exp (-10 / temp) := by
          rw [Finset.sum_const, Finset.card_univ, Fintype.card_fin, nsmul_eq_mul]; norm_num
      _ ≤ 4096 * Real.exp (-10 / temp) := mul_le_mul_of_nonneg_right (by norm_num) (Real.exp_pos _).le
  have hn := near hσ (h2.trans (by norm_num)) temp_pos (Bracket.reorder hb σ) hw (div_nonneg hw0 (by norm_num)) hq0
    (masked_small (abs_le.1 h.pos).1 hB q hq1)
  have hsum : (∑ i : Fin 4095, if i.val < K then Real.exp (y i.castSucc / temp) else Real.exp (-10 / temp))
      = (∑ j : Fin 4096, if j.val < K then Real.exp (y j / temp) else 0) + q := by
    rw [Fin.sum_univ_castSucc (n := 4095), if_neg (by show ¬ (4095 < K); omega), add_zero, hqd, ← Finset.sum_add_distrib]
    refine Finset.sum_congr rfl fun i _ => ?_
    show _ = (if i.val < K then _ else _) + _
    split
    · rw [add_zero]
    · rw [zero_add]
  have hx : (∑ j, if a.2.1 < x j then Real.exp (x j / temp) else 0) = ∑ j, if a.2.1 < y j then Real.exp (y j / temp) else 0 :=
    (σ.sum_comp fun j => if a.2.1 < x j then Real.exp (x j / temp) else 0).symm
  rw [rowLoss_eq x K p a hb.few.le, sortedLoss, hsum, ← add_assoc, hx]
  refine le_trans (le_of_eq ?_) hn
  congr 1
  ring

end Cert.LossRun

end
-- ==== Proof.LossPost.lean ====
module

public import proofs.«01_k».proof.Post_near_loss
public import proofs.«01_k».proof.Pre_masked_cosines
public import proofs.«01_k».proof.Proof.LossVal
public import proofs.«01_k».proof.Proof.LossBound
public import Idealize.ShloMosaic.Lib.SortFacts

/-!
  What the precondition says of the second call's arguments and what the postcondition asks of its result, over
  the extended reals; and that the result is as near as asked.
-/

@[expose] public section

noncomputable section

namespace Cert.LossPost

open Idealize.ShloMosaic Idealize.ShloMosaic.TcCoe Idealize.ShloMosaic.StableHlo
open Cert.Pose Cert.LossMath Cert.LossRun
open Cert.Post_near_loss

/-- The operations' shapes fit. -/
theorem facts : Facts where
  slices_S4096x128_S4096x1_0_0 := by decide
  shapeCasts_S4096x1_S4096 := by decide
  reducesTo_S4096_S_d0 := by decide
  h_S_ := by decide
  bitsLt_bf16_f32 := by decide
  bcast_S4095_S1x4095_1 := by decide
  bcast_S_S1x4095 := by decide
  slices_S4096x4096_S4096x4095_0_0 := by decide
  bcast_S1x4095_S4096x4095_0_1 := by decide
  bcast_S_S4096x4095 := by decide
  concatenates_S4096x1_S4096x4095_S4096x4096_d1 := by decide
  bcast_S_S4096x4096 := by decide
  reducesTo_S4096x4096_S4096_d1 := by decide
  bcast_S4096_S4096x1_0 := by decide
  bcast_S4096x1_S4096x4096_0_1 := by decide
  slices_S4096x4096_S4096x1_0_0 := by decide
  bcast_S_S4096 := by decide
  bcast_S_S8x128 := by decide

variable [hF : Facts]

/-- A row's loss from its logits: the positive's and the others'. -/
def logitLoss (z : Fin 4095 → ℝ) (p : ℝ) : ℝ := Real.log (Real.exp (p / temp) + ∑ j, Real.exp (z j / temp)) - p / temp

theorem tight_eq : Ideal.ofBits .f32 0x3CF5C28F#32 = (tight : EReal) := by
  rw [tight, EReal.coe_mul]
  simp [Ideal.ofBits, Ideal.ieee]

theorem loose_eq : Ideal.ofBits .f32 0x3E23D70A#32 = (loose : EReal) := by
  rw [loose, EReal.coe_mul]
  simp [Ideal.ofBits, Ideal.ieee]

theorem rows_eq : Ideal.ofBits .f32 0x45800000#32 = ((4096 : ℝ) : EReal) := by
  have : (4096 : ℝ) = 8388608 * (2 ^ 11)⁻¹ := by norm_num
  rw [this, EReal.coe_mul]
  simp [Ideal.ofBits, Ideal.ieee]

/-- The choice between the two bounds at a row. -/
theorem bounds_at (x y : FVec Ideal S4096 .f32) (u v : BitVec 32) (k : Fin 4096) :
    fn_where_0 (F := Ideal) (cmpf .oge x y) (constant S_ .f32 u) (constant S_ .f32 v) (ix1 k)
      = if y (ix1 k) ≤ x (ix1 k) then Ideal.ofBits .f32 u else Ideal.ofBits .f32 v := by
  pointwise [fn_where_0]

/-- The greatest logit cancels. -/
theorem shift_out (z : Fin 4095 → ℝ) (p M : ℝ) :
    Real.log (Real.exp (p / temp - M) + ∑ j, Real.exp (z j / temp - M)) + M - p / temp = logitLoss z p := by
  have h : Real.exp (p / temp - M) + ∑ j, Real.exp (z j / temp - M) = (Real.exp (p / temp) + ∑ j, Real.exp (z j / temp)) * Real.exp (-M) := by
    simp only [sub_eq_add_neg, Real.exp_add]
    rw [← Finset.sum_mul, add_mul]
  have hpos : 0 < Real.exp (p / temp) + ∑ j, Real.exp (z j / temp) :=
    add_pos_of_pos_of_nonneg (Real.exp_pos _) (Finset.sum_nonneg fun j _ => (Real.exp_pos _).le)
  rw [h, Real.log_mul hpos.ne' (Real.exp_pos _).ne', Real.log_exp, logitLoss]
  ring

theorem part1_at (x1 : FVec Ideal S4096x128 .f32) (o : FVec Ideal S8x128 .f32) (w : IVec S_ 32) (z : FVec Ideal S4096x4095 .f32) (q : FVec Ideal S4096x1 .f32)
    (a : Fin 8) (b : Fin 128) (Z : Fin 4096 → Fin 4095 → ℝ) (n p : Fin 4096 → ℝ) (v k : ℝ) (hz : ∀ i j, z (ix2 i j) = (Z i j : EReal))
    (hq : ∀ i (e : Fin 1), q (ix2 i e) = (p i : EReal)) (hn : ∀ i, x1 (ix2 i 0) = (n i : EReal)) (ho : o (ix2 a b) = (v : EReal))
    (hk : ((w ix0).toInt : ℝ) = k)
    (h : |v - (∑ i, logitLoss (Z i) (p i)) / 4096| ≤ (∑ i, if k ≤ n i then tight else loose) / 4096) :
    fn_part1 (F := Ideal) x1 o w z q (ix2 a b) = 1#1 := by
  pointwise [fn_part1, fn_part2]
  let g : Fin 4096 → Fin 4096 → ℝ := fun i j => if h : j.val < 1 then p i / temp else Z i ⟨j.val - 1, by omega⟩ / temp
  have hg : ∀ (i j : Fin 4096), Ideal.div (if h : j.val < 1 then q (ix2 i ⟨j.val, h⟩) else z (ix2 i ⟨j.val - 1, by omega⟩)) (Ideal.ofBits .f32 0x3D8F5C29#32)
      = (g i j : EReal) := fun i j => by
    show _ = ((if h : j.val < 1 then p i / temp else Z i ⟨j.val - 1, by omega⟩ / temp : ℝ) : EReal)
    split
    · rw [hq, temp_eq, div_coe _ _ temp_pos.ne']
    · rw [hz, temp_eq, div_coe _ _ temp_pos.ne']
  have hm : ∀ i, Finset.fold max (⊥ : EReal) (fun j => ((g i j : ℝ) : EReal)) Finset.univ = ((top (g i) : ℝ) : EReal) := fun i => fold_max (g i)
  simp only [id, bounds_at]
  pointwise
  simp only [hg, ofBits_neg_inf, hm]
  simp only [hq, hz, hn, temp_eq, div_coe _ _ temp_pos.ne', ← EReal.coe_sub, exp_coe, sum_coe, ← EReal.coe_add, Fin.sum_univ_one, Finset.sum_const, Finset.card_univ, Fintype.card_fin, one_smul, tight_eq, loose_eq, rows_eq, ho]
  have hs : (FloatOps.sitofp .f32 (w ix0) : Ideal .f32) = (k : EReal) := congrArg (fun r : ℝ => (r : EReal)) hk
  have hr : ∀ i, Ideal.log ((Real.exp (p i / temp - top (g i)) + ∑ j, Real.exp (Z i j / temp - top (g i)) : ℝ) : EReal) + (top (g i) : EReal) - ((p i / temp : ℝ) : EReal)
      = (logitLoss (Z i) (p i) : EReal) := fun i => by
    rw [log_coe (add_pos_of_pos_of_nonneg (Real.exp_pos _) (Finset.sum_nonneg fun j _ => (Real.exp_pos _).le)), ← EReal.coe_add, ← EReal.coe_sub,
      shift_out]
  have hi : ∀ i, (if (k : EReal) ≤ (n i : EReal) then (tight : EReal) else (loose : EReal)) = ((if k ≤ n i then tight else loose : ℝ) : EReal) := fun i => by
    simp only [EReal.coe_le_coe_iff]
    exact ite_coe _ _ _
  have ha : ∀ r : ℝ, (FloatOps.absf (r : EReal) : Ideal .f32) = ((|r| : ℝ) : EReal) := fun r => by
    show max (r : EReal) (-(r : EReal)) = _
    rw [← EReal.coe_neg, max_coe]
    rfl
  simp only [hs, hr, hi, sum_coe, div_coe _ _ (by norm_num : (4096 : ℝ) ≠ 0), ← EReal.coe_sub, ha]
  simp only [EReal.coe_le_coe_iff]
  rw [decide_eq_true h]
  rfl

/-! ## The sort -/

/-- Which entry of row `i` the sort puts at a place. -/
def order (y : FVec Ideal S4096x4096 .f32) (i : Fin 4096) : Fin 4096 → Fin 4096 :=
  sortedFrom fun k k' => comparator_f32_d1 (F := Ideal) (y (ix2 i k)) (y (ix2 i k')) == 1#1

theorem along_eq (i k k' : Fin 4096) : Shape.Idx.along (s := S4096x4096) (ix2 i k) 1 k' = ix2 i k' := by
  funext d
  match d with
  | ⟨0, _⟩ => rfl
  | ⟨1, _⟩ => rfl

theorem sort_at (y : FVec Ideal S4096x4096 .f32) (i k : Fin 4096) : fn_sort (F := Ideal) y (ix2 i k) = y (ix2 i (order y i k)) := by
  have e : Host.sort S4096x4096 1 (comparator_f32_d1 (F := Ideal)) y (ix2 i k) = _ := dif_pos (by decide : 1 < S4096x4096.rank)
  refine e.trans ?_
  show y (Shape.Idx.along (s := S4096x4096) (ix2 i k) 1 (sortedFrom (fun k1 k2 =>
    comparator_f32_d1 (F := Ideal) (y (Shape.Idx.along (s := S4096x4096) (ix2 i k) 1 k1)) (y (Shape.Idx.along (s := S4096x4096) (ix2 i k) 1 k2)) == 1#1) k)) = _
  unfold order
  refine (congrArg y (along_eq i k _)).trans (congrArg (fun f => y (ix2 i (sortedFrom f k))) (funext fun a => funext fun b => ?_))
  exact congrArg₂ (fun u v => comparator_f32_d1 (F := Ideal) u v == 1#1) (congrArg y (along_eq i k a)) (congrArg y (along_eq i k b))

/-- The comparator on reals: less. -/
theorem comparator_coe (a b : ℝ) : comparator_f32_d1 (F := Ideal) (a : EReal) (b : EReal) = BitVec.ofBool (decide (a < b)) := by
  have h0 : ∀ r : ℝ, (if (r : EReal) = 0 then (0 : EReal) else (r : EReal)) = r := fun r => by
    split
    · next h => exact h.symm
    · rfl
  unfold comparator_f32_d1
  pointwise
  rw [if_neg (not_not.2 rfl), if_neg (not_not.2 rfl), h0, h0]
  show BitVec.ofBool (decide ((a : EReal) < (b : EReal))) = _
  simp only [EReal.coe_lt_coe_iff]

/-- The places are the entries, each once. -/
theorem order_bijective (y : FVec Ideal S4096x4096 .f32) (i : Fin 4096) : Function.Bijective (order y i) :=
  ⟨sortedFrom_injective _, sortedFrom_surjective _⟩

/-- The sort of the negated entries puts the greatest first. -/
theorem order_antitone (y : FVec Ideal S4096x4096 .f32) (i : Fin 4096) (x : Fin 4096 → ℝ) (hy : ∀ j, y (ix2 i j) = ((-x j : ℝ) : EReal)) :
    Antitone fun k => x (order y i k) := by
  have hB : ∀ k k', (comparator_f32_d1 (F := Ideal) (y (ix2 i k)) (y (ix2 i k')) == 1#1) = decide (-x k < -x k') := fun k k' => by
    rw [hy, hy, comparator_coe]
    by_cases h : -x k < -x k'
    · rw [decide_eq_true h]; rfl
    · rw [decide_eq_false h]; rfl
  have ho : order y i = sortedFrom fun k k' => decide (-x k < -x k') := by
    unfold order
    simp only [hB]
  intro k k' hk
  rcases hk.eq_or_lt with rfl | hk
  · exact le_rfl
  have h := sortedFrom_noInversion (fun k k' => decide (-x k < -x k')) (fun k k' => decide (-x k < -x k'))
    (fun a b h => by have := of_decide_eq_true h; exact decide_eq_false (by linarith)) (fun _ _ h => h)
    (fun a b c h h' => by have := of_decide_eq_false h; have := of_decide_eq_false h'; exact decide_eq_false (by linarith)) k k' hk
  have := of_decide_eq_false h
  rw [ho]
  linarith

/-! ## The number of negatives kept -/

omit hF in
theorem floor_eighth (N : ℕ) : ⌊(N : ℝ) * (1 / 8192)⌋ = ((N / 8192 : ℕ) : ℤ) := by
  rw [Int.floor_eq_iff]
  have h1 : ((N / 8192 : ℕ) : ℝ) * 8192 ≤ N := by exact_mod_cast Nat.div_mul_le_self N 8192
  have h2 : (N : ℝ) < ((N / 8192 : ℕ) : ℝ) * 8192 + 8192 := by exact_mod_cast (by omega : N < N / 8192 * 8192 + 8192)
  rw [Int.cast_natCast]
  constructor <;> linarith

/-- The conversion of a small whole number to a word. -/
theorem fptosi_nat (d : ℕ) (h : d ≤ 2048) : Ideal.fptosi 32 ((d : ℝ) : EReal) = BitVec.ofNat 32 d := by
  show BitVec.ofInt 32 (max (-((2 ^ 31 : ℕ) : ℤ)) (min (((2 ^ 31 : ℕ) : ℤ) - 1) (if 0 ≤ (d : ℝ) then ⌊(d : ℝ)⌋ else ⌈(d : ℝ)⌉))) = _
  rw [if_pos (Nat.cast_nonneg d), Int.floor_natCast, min_eq_right (by omega), max_eq_right (by omega)]
  rfl

theorem toInt_ofNat (d : ℕ) (h : d ≤ 4096) : (BitVec.ofNat 32 d).toInt = d := by
  have e : (BitVec.ofNat 32 d).toNat = d := by
    rw [BitVec.toNat_ofNat]
    exact Nat.mod_eq_of_lt (by omega)
  rw [BitVec.toInt_eq_toNat_of_lt (by rw [e]; omega), e]

theorem max_word (d : ℕ) (h : d ≤ 2048) : IntOp.maxsi 1#32 (BitVec.ofNat 32 d) = BitVec.ofNat 32 (max 1 d) := by
  unfold IntOp.maxsi
  rw [BitVec.slt, toInt_ofNat d (by omega), show (1#32).toInt = 1 from rfl]
  by_cases h1 : d < 1
  · rw [if_pos (decide_eq_true (by omega)), max_eq_left (by omega)]
  · rw [if_neg (by rw [decide_eq_true_iff]; omega), max_eq_right (by omega)]

theorem less_word (j K : ℕ) (hj : j ≤ 4096) (hK : K ≤ 4096) : IntOp.cmpi .slt (BitVec.ofNat 32 j) (BitVec.ofNat 32 K) = BitVec.ofBool (decide (j < K)) := by
  show BitVec.ofBool (BitVec.slt _ _) = _
  rw [BitVec.slt, toInt_ofNat j hj, toInt_ofNat K hK]
  simp only [Nat.cast_lt]

/-! ## The result is near -/

/-- The word of the number of negatives kept. -/
theorem word_at (x1 : FVec Ideal S4096x128 .f32) (n : Fin 4096 → ℝ) (N : ℕ) (hn : ∀ i, x1 (ix2 i 0) = (n i : EReal)) (hN : ∑ i, n i = N)
    (hle : N ≤ 4096 * 4096) (w : IVec S_ 32)
    (hw : w = maxsi (constantI S_ 32 1#32) (fptosi 32 (Host.floor (mulf (constant S_ .f32 0x3F000000#32) (Host.divf (Host.reduceAdd
      (shapeCast S4096 (extractStridedSlice S4096x1 ![0, 0] x1 Facts.slices_S4096x128_S4096x1_0_0) Facts.shapeCasts_S4096x1_S4096) (constant (F := Ideal) S_ .f32 0x00000000#32)
      Facts.reducesTo_S4096_S_d0 Facts.h_S_) (constant S_ .f32 0x45800000#32)))))) :
    w ix0 = BitVec.ofNat 32 (max 1 (N / 8192)) := by
  rw [hw]
  pointwise
  simp only [hn, sum_coe, hN, half_eq, rows_eq, div_coe _ _ (by norm_num : (4096 : ℝ) ≠ 0)]
  rw [← EReal.coe_mul]
  have e : Ideal.liftRound Int.floor ((1 / 2 * (N / 4096) : ℝ) : EReal) = (((N / 8192 : ℕ) : ℝ) : EReal) := by
    show (((⌊(1 / 2 * (N / 4096) : ℝ)⌋ : ℤ) : ℝ) : EReal) = _
    rw [show (1 / 2 * (N / 4096) : ℝ) = N * (1 / 8192) by ring, floor_eighth, Int.cast_natCast]
  rw [e]
  exact (congrArg (IntOp.maxsi 1#32) (fptosi_nat _ (by omega))).trans (max_word _ (by omega))

/-- The logits of a row: its kept entries, the mask for the others. -/
theorem kept_at (w : IVec S_ 32) (x : FVec Ideal S4096x4096 .f32) (b : BitVec 32) (i : Fin 4096) (j : Fin 4095) :
    fn_where (F := Ideal) (cmpi .slt (broadcastInDim S1x4095 ![1] Facts.bcast_S4095_S1x4095_1 (iotaInDim S4095 32 0))
        (broadcastInDim S1x4095 ![] Facts.bcast_S_S1x4095 w))
      (extractStridedSlice S4096x4095 ![0, 0] x Facts.slices_S4096x4096_S4096x4095_0_0) (constant S_ .f32 b) (ix2 i j)
      = Scalar.select (IntOp.cmpi .slt (BitVec.ofNat 32 j.val) (w ix0)) (x (ix2 i j.castSucc)) (Ideal.ofBits .f32 b) := by
  pointwise [fn_where]
  rfl

/-- The distance of two means. -/
theorem mean_near (f g b : Fin 4096 → ℝ) (h : ∀ i, |f i - g i| ≤ b i) : |(∑ i, f i) * (1 / 4096) - (∑ i, g i) / 4096| ≤ (∑ i, b i) / 4096 := by
  have e : (∑ i, f i) * (1 / 4096) - (∑ i, g i) / 4096 = (∑ i, (f i - g i)) / 4096 := by
    rw [Finset.sum_sub_distrib]; ring
  rw [e, abs_div, abs_of_pos (by norm_num : (0 : ℝ) < 4096)]
  exact div_le_div_of_nonneg_right ((Finset.abs_sum_le_sum_abs _ _).trans (Finset.sum_le_sum fun i _ => h i)) (by norm_num)

theorem near_at (x0 : FVec Ideal S4096x4096 .bf16) (x1 x2 : FVec Ideal S4096x128 .f32) (o : FVec Ideal S8x128 .f32)
    (x : Fin 4096 → Fin 4096 → ℝ) (n p : Fin 4096 → ℝ) (N : ℕ) (hx : ∀ i j, x0 (ix2 i j) = (x i j : EReal)) (hn : ∀ i, x1 (ix2 i 0) = (n i : EReal))
    (hp : ∀ i, x2 (ix2 i 0) = (p i : EReal)) (hrow : ∀ i, RowOk (x i) (n i) (p i)) (hN : ∑ i, n i = N) (hle : N ≤ 4096 * 4096)
    (ho : ∀ a b, o (ix2 a b) = (meanLoss x n p : EReal)) : fn (F := Ideal) x0 x1 x2 o = fun _ => 1#1 := by
  funext ab
  obtain ⟨a, b, rfl⟩ : ∃ a b, ab = ix2 a b := ⟨ab 0, ab 1, by
    funext d
    match d with
    | ⟨0, _⟩ => rfl
    | ⟨1, _⟩ => rfl⟩
  have hd : N / 8192 ≤ 2048 := by omega
  set K := max 1 (N / 8192) with hK
  have hkept : kept n = (K : ℝ) := by
    rw [kept, hN, floor_eighth, hK, Int.cast_natCast, Nat.cast_max, Nat.cast_one]
  let y : FVec Ideal S4096x4096 .f32 := Host.negf (extf .f32 x0 Facts.bitsLt_bf16_f32)
  have hy : ∀ i j, y (ix2 i j) = ((-x i j : ℝ) : EReal) := fun i j => by
    show (Host.negf (extf .f32 x0 Facts.bitsLt_bf16_f32) : FVec Ideal S4096x4096 .f32) (ix2 i j) = _
    pointwise
    rw [hx, EReal.coe_neg]
  obtain ⟨σ, hσ⟩ : ∃ σ : Fin 4096 → Fin 4096 ≃ Fin 4096, ∀ i j, σ i j = order y i j :=
    ⟨fun i => Equiv.ofBijective _ (order_bijective y i), fun i j => Equiv.ofBijective_apply _ (order_bijective y i) j⟩
  let Z : Fin 4096 → Fin 4095 → ℝ := fun i j => if j.val < K then x i (σ i j.castSucc) else -10
  unfold fn
  refine part1_at x1 o _ _ _ a b Z n p (meanLoss x n p) K ?_ ?_ hn (ho a b) ?_ ?_
  · intro i j
    refine (kept_at _ _ _ i j).trans ?_
    rw [word_at x1 n N hn hN hle _ rfl, less_word _ _ (by omega) (by omega), select_ofBool]
    show (if j.val < K then -(fn_sort (F := Ideal) y (ix2 i j.castSucc) : EReal) else _) = ((if j.val < K then x i (σ i j.castSucc) else -10 : ℝ) : EReal)
    rw [sort_at, hy, fill_eq, hσ, ← EReal.coe_neg, neg_neg, ite_coe]
  · intro i e
    pointwise
    exact hp i
  · rw [word_at x1 n N hn hN hle _ rfl]
    rw [toInt_ofNat _ (by omega), Int.cast_natCast]
  · refine mean_near _ _ _ fun i => ?_
    have ha : Antitone fun j => x i (σ i j) := by
      simp only [hσ]
      exact order_antitone y i (x i) (hy i)
    have h := row_near (hrow i) (K := K) (by omega) (by omega) (σ i) ha
    have hz : logitLoss (Z i) (p i) = sortedLoss (fun j => x i (σ i j)) K (p i) := by
      unfold logitLoss sortedLoss
      refine congrArg (fun s => Real.log (Real.exp (p i / temp) + s) - p i / temp) (Finset.sum_congr rfl fun j _ => ?_)
      show Real.exp ((if j.val < K then x i (σ i j.castSucc) else -10) / temp) = _
      split <;> rfl
    rw [hz]
    unfold ends
    rw [hkept]
    exact h

end Cert.LossPost

namespace Cert.LossPre
open Idealize.ShloMosaic Idealize.ShloMosaic.TcCoe Idealize.ShloMosaic.StableHlo
open Cert.Pose Cert.LossMath Cert.LossRun
open Cert.Pre_masked_cosines

/-- The operations' shapes fit. -/
theorem facts : Facts where
  bitsLt_bf16_f32 := by decide
  bcast_S_S4096x4096 := by decide
  reducesTo_S4096x4096_S4096_d1 := by decide
  h_S_ := by decide
  bcast_S4096_S4096x1_0 := by decide
  slices_S4096x128_S4096x1_0_0 := by decide
  bcast_S_S4096x1 := by decide

variable [hF : Facts] (x0 : FVec Ideal S4096x4096 .bf16) (x1 x2 : FVec Ideal S4096x128 .f32)

/-- A number of magnitude at most one is a real one. -/
theorem real_of_abs {a : EReal} (h : (FloatOps.absf (φ := .f32) (F := Ideal) a : EReal) ≤ 1) : ∃ r : ℝ, a = (r : EReal) ∧ |r| ≤ 1 := by
  have h : max a (-a) ≤ 1 := h
  induction a with
  | bot => simp at h; exact absurd h (EReal.coe_ne_top 1)
  | top => simp at h; exact absurd h (EReal.coe_ne_top 1)
  | coe r =>
    refine ⟨r, rfl, ?_⟩
    rw [← EReal.coe_neg, max_coe] at h
    exact_mod_cast h

/-- Every similarity is a cosine or the mask. -/
theorem sims (h : (fn (F := Ideal) x0 x1 x2).1 = fun _ => 1#1) (i j : Fin 4096) : ∃ r : ℝ, x0 (ix2 i j) = (r : EReal) ∧ (|r| ≤ 1 ∨ r = -10) := by
  have e := congrFun h (ix2 i j)
  pointwise [fn, fn_part1] at e
  by_cases h1 : (FloatOps.absf (φ := .f32) (F := Ideal) (x0 (ix2 i j)) : EReal) ≤ 1
  · obtain ⟨r, hr, hb⟩ := real_of_abs h1
    exact ⟨r, hr, Or.inl hb⟩
  · by_cases h2 : x0 (ix2 i j) = Ideal.ofBits .f32 0xC1200000#32
    · exact ⟨-10, h2.trans fill_eq, Or.inr rfl⟩
    · rw [decide_eq_false h1, decide_eq_false h2] at e
      exact absurd e (by decide)

theorem mask_at (u v : FVec Ideal S4096x4096 .f32) (b b' : BitVec 32) (i j : Fin 4096) :
    fn_where (F := Ideal) (cmpf .ogt u v) (constant S_ .f32 b) (constant S_ .f32 b') (ix2 i j)
      = if v (ix2 i j) < u (ix2 i j) then Ideal.ofBits .f32 b else Ideal.ofBits .f32 b' := by
  pointwise [fn_where]

/-- Every count is the number of its row's unmasked similarities. -/
theorem counts (h : (fn (F := Ideal) x0 x1 x2).2.1 = fun _ => 1#1) (x : Fin 4096 → Fin 4096 → ℝ) (hx : ∀ i j, x0 (ix2 i j) = (x i j : EReal))
    (i : Fin 4096) : x1 (ix2 i 0) = ((∑ j, if -10 < x i j then (1 : ℝ) else 0 : ℝ) : EReal) := by
  have e := congrFun h (ix2 i 0)
  pointwise [fn, fn_part1] at e
  simp only [id, mask_at] at e
  pointwise at e
  simp only [hx, fill_eq, EReal.coe_lt_coe_iff] at e
  have hs : (∑ j, if -10 < x i j then (1 : EReal) else 0) = ((∑ j, if -10 < x i j then (1 : ℝ) else 0 : ℝ) : EReal) := by
    rw [← sum_coe]
    exact Finset.sum_congr rfl fun j _ => ite_coe _ 1 0
  rw [hs] at e
  by_contra hne
  rw [decide_eq_false hne] at e
  exact absurd e (by decide)

/-- Every positive similarity is a cosine. -/
theorem positives (h : (fn (F := Ideal) x0 x1 x2).2.2 = fun _ => 1#1) (i : Fin 4096) : ∃ r : ℝ, x2 (ix2 i 0) = (r : EReal) ∧ |r| ≤ 1 := by
  have e := congrFun h (ix2 i 0)
  pointwise [fn, fn_part1] at e
  by_cases h1 : (FloatOps.absf (φ := .f32) (F := Ideal) (x2 (ix2 i 0)) : EReal) ≤ 1
  · exact real_of_abs h1
  · rw [decide_eq_false h1] at e
    exact absurd e (by decide)

end Cert.LossPre

end
-- ==== Proof.LossHolds.lean ====
module

public import proofs.«01_k».proof.Proof.LossPost

/-!
  From arguments of which the precondition holds, the second call's result is as near to the sorted loss as the
  postcondition asks.
-/

@[expose] public section

noncomputable section

namespace Cert.LossHolds

open Idealize.ShloMosaic Idealize.ShloMosaic.TcCoe
open Cert.LossIdeal Cert.LossIdeal.Gen
open Cert.Pose Cert.LossMath Cert.LossRun

variable (m : (ℓ : Loc nD τ sig) → Buf (Elt Ideal) ℓ)

/-- How many similarities are unmasked, in all. -/
theorem total (x : Fin 4096 → Fin 4096 → ℝ) :
    ∃ N : ℕ, (∑ i, ∑ j, if -10 < x i j then (1 : ℝ) else 0) = N ∧ N ≤ 4096 * 4096 := by
  refine ⟨∑ i, (Finset.univ.filter fun j => -10 < x i j).card, ?_, ?_⟩
  · rw [Nat.cast_sum]
    exact Finset.sum_congr rfl fun i _ => sum_ite_card _
  · calc ∑ i : Fin 4096, (Finset.univ.filter fun j => -10 < x i j).card ≤ ∑ _i : Fin 4096, 4096 :=
          Finset.sum_le_sum fun i _ => (Finset.card_le_univ _).trans (le_of_eq (Fintype.card_fin 4096))
      _ = 4096 * 4096 := by rw [Finset.sum_const, Finset.card_univ, Fintype.card_fin, smul_eq_mul]

/-- The number kept lies between one and the row's length. -/
theorem kept_bounds (n : Fin 4096 → ℝ) (N : ℕ) (hN : ∑ i, n i = N) (hle : N ≤ 4096 * 4096) : 0 < kept n ∧ kept n ≤ 4096 := by
  rw [kept, hN, Cert.LossPost.floor_eighth, Int.cast_natCast]
  have h : ((N / 8192 : ℕ) : ℝ) ≤ 4096 := by exact_mod_cast (by omega : N / 8192 ≤ 4096)
  exact ⟨lt_of_lt_of_le one_pos (le_max_left _ _), max_le (by norm_num) h⟩

/-- What the call leaves meets the postcondition. -/
theorem result_near [Cert.Pre_masked_cosines.Facts] [Cert.Post_near_loss.Facts] (c : Dev nD)
    (h1 : (Cert.Pre_masked_cosines.fn (F := Ideal) (m ((c.tc : Thread nD τ).loc main_arg0)) (m ((c.tc : Thread nD τ).loc main_arg1)) (m ((c.tc : Thread nD τ).loc main_arg2))).1 = fun _ => 1#1)
    (h2 : (Cert.Pre_masked_cosines.fn (F := Ideal) (m ((c.tc : Thread nD τ).loc main_arg0)) (m ((c.tc : Thread nD τ).loc main_arg1)) (m ((c.tc : Thread nD τ).loc main_arg2))).2.1 = fun _ => 1#1)
    (h3 : (Cert.Pre_masked_cosines.fn (F := Ideal) (m ((c.tc : Thread nD τ).loc main_arg0)) (m ((c.tc : Thread nD τ).loc main_arg1)) (m ((c.tc : Thread nD τ).loc main_arg2))).2.2 = fun _ => 1#1) :
    Cert.Post_near_loss.fn (F := Ideal) (m ((c.tc : Thread nD τ).loc main_arg0)) (m ((c.tc : Thread nD τ).loc main_arg1)) (m ((c.tc : Thread nD τ).loc main_arg2))
      ((dats m 0 c).arrAt 4 cfg0.N) = fun _ => 1#1 := by
  choose x hx hx' using Cert.LossPre.sims _ _ _ h1
  choose p hp hp' using fun i => Cert.LossPre.positives _ _ _ h3 i
  have hn := fun i => Cert.LossPre.counts _ _ _ h2 x hx i
  obtain ⟨N, hN, hle⟩ := total x
  obtain ⟨n, hnd⟩ : ∃ n : Fin 4096 → ℝ, n = fun i => ∑ j, if -10 < x i j then (1 : ℝ) else 0 := ⟨_, rfl⟩
  have hn' : ∀ i, m ((c.tc : Thread nD τ).loc main_arg1) (ix2 i 0) = (n i : EReal) := fun i => by rw [hnd]; exact hn i
  have hN' : ∑ i, n i = N := by rw [hnd]; exact hN
  have hrow : ∀ i, RowOk (x i) (n i) (p i) := fun i => ⟨hx' i, by rw [hnd], hp' i⟩
  obtain ⟨k0, k1⟩ := kept_bounds n N hN' hle
  have D : Data m c x n p := ⟨hx, hn', hp⟩
  have hc : ∀ i, (ends x n i).2.2 ≤ kept n := fun i => (ends_bracket (hrow i) k0 k1).few.le
  exact Cert.LossPost.near_at _ _ _ _ x n p N hx hn' hp hrow hN' hle fun a b => final_at D hc a b

end Cert.LossHolds

end
-- ==== Proof.Same.lean ====
/-
  The kernel and the exact kernel are one program: no operation is rewritten between them, so what is proved of the
  exact kernel's run for any float values holds of the kernel's.
-/
module

public import proofs.«01_k».proof.Proof.Gen.Kernel
public import proofs.«01_k».proof.Proof.Run

@[expose] public section

noncomputable section

namespace Cert.Same

open Idealize.ShloMosaic Idealize.SL.Sem

variable {F : FTy → Type} [FloatOps F]

set_option maxHeartbeats 2000000 in
/-- The two kernel functions are the same. -/
theorem body_eq : @Cert.Kernel.cc0_tactus_pose F _ _ = @Cert.KernelIdeal.cc0_tactus_pose F _ _ := rfl

set_option maxHeartbeats 2000000 in
/-- The two body tables are the same. -/
theorem table_eq : Cert.Kernel.defs₀ (F := F) = Cert.KernelIdeal.defs₀ (F := F) := by
  refine congrArg Defs.onTc ?_
  funext l a
  obtain ⟨l, hl⟩ := l
  cases l with
  | zero => obtain ⟨t, s⟩ := a; rfl
  | succ n => exact absurd hl (Nat.not_lt.2 (Nat.le_add_left _ _))

set_option maxHeartbeats 2000000 in
/-- The two tables with the pipelines' labels are the same. -/
theorem defs_eq : Cert.Kernel.defs (F := F) = Cert.KernelIdeal.defs (F := F) :=
  congrArg (Pipeline.defs (Cert.KernelIdeal.pcfgs (F := F))) (table_eq (F := F))

set_option maxHeartbeats 2000000 in
/-- The two main programs are the same. -/
theorem main_eq : Cert.Kernel.main (F := F) = Cert.KernelIdeal.main (F := F) := rfl

/-- The exact kernel's run, read at the arguments and the counters only. -/
theorem kept (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD, Cert.KernelIdeal.Hand.Kept m r c) ∧ r.2.sem = fun _ => 0) :=
  (θ_run Cert.KernelIdeal.defs _ _).mono (fun _ h => ⟨fun c => (h.1 c).2.2.2, h.2⟩) (Cert.KernelIdeal.Hand.values (F := F) m g)

variable (m : (ℓ : Loc Cert.Kernel.nD Cert.Kernel.τ Cert.Kernel.sig) → Buf (Elt F) ℓ) (g : Dev Cert.Kernel.nD → PrngReg)

set_option maxHeartbeats 2000000 in
/-- The kernel runs, for any float values: its arguments end unchanged and every counter is zero. -/
theorem frame : θ_run (Cert.Kernel.defs (F := F)) (onTc (τ := Cert.Kernel.τ) (Cert.Kernel.main (F := F))) ⟨m, fun _ => 0, g⟩ (fun r =>
    (∀ c : Dev Cert.KernelIdeal.nD, Cert.KernelIdeal.Hand.Kept m r c) ∧ r.2.sem = fun _ => 0) := by
  have h := kept m g
  rw [← defs_eq] at h
  exact h

end Cert.Same

end
-- ==== Proof.lean ====
/-
  The claims. The exact kernel's run is `Hand.values` (Proof/Run.lean), the kernel's the same (Proof/Same.lean),
  the reference's the generated `Value.run`; that the two end with equal results is Proof/Agree.lean. The second
  call's result meets its bound by Proof/LossHolds.lean.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import proofs.«01_k».proof.Proof.LossHolds
public import proofs.«01_k».proof.Proof.Same
public import Idealize.ShloMosaic.Adequacy
public import Idealize.ShloMosaic.Init

@[expose] public section

noncomputable section

namespace Cert.Proof

open Idealize.ShloMosaic Idealize.SL.Sem

/-- The kernel at its own words runs, leaves its arguments as they were and every counter at zero: its program is the
    exact kernel's, operation by operation, and that one's run holds for any float values. -/
theorem frame_kernel : Cert.quiescent_Kernel := fun m g _ =>
  Cert.Same.frame m g

/-- The exact kernel runs, leaves its arguments as they were and every counter at zero. -/
theorem frame_kernelIdeal : Cert.quiescent_KernelIdeal := fun m g _ =>
  (θ_run Cert.KernelIdeal.defs _ _).mono (fun _ h => ⟨fun c => (h.1 c).2.2.2, h.2⟩) (Cert.KernelIdeal.Hand.values m g)

/-- The reference runs, leaves its arguments as they were; it declares no counter. -/
theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run m g)

/-- From memories that agree on the arguments, of which the precondition holds, the exact kernel and the reference
    both end with the kernel's masked similarities, counts and positive similarities. -/
theorem agree [Cert.Pre_rows_of_eight.Facts] : Cert.algebraic_KernelIdeal_ReferenceIdeal_pre_rows_of_eight := fun m g m' g' hp hs =>
  ⟨fun c => Cert.KernelIdeal.Hand.negFull m c, fun c => Cert.KernelIdeal.Hand.cntFull m c, fun c => Cert.KernelIdeal.Hand.posFull m c,
    (θ_run Cert.KernelIdeal.defs _ _).mono (fun _ h c => h.1 c) (Cert.KernelIdeal.Hand.values m g),
    (θ_run Cert.ReferenceIdeal.defs _ _).mono (fun _ h c =>
      ⟨(h c).1.trans (Cert.Agree.neg_eq m m' c (hp c) (hs c)),
        (h c).2.1.trans (Cert.Agree.cnt_eq m m' c (hp c) (hs c)),
        (h c).2.2.1.trans (Cert.Agree.pos_eq m m' c (hp c) (hs c)),
        (h c).2.2.2⟩) (Cert.ReferenceIdeal.Value.run m' g')⟩

/-- From arguments of which the precondition holds, the second call leaves its arguments as they were and a loss near
    the sorted one. -/
theorem near_loss [Cert.Pre_masked_cosines.Facts] [Cert.Post_near_loss.Facts] :
    @Cert.holds_LossIdeal_near_loss_pre_masked_cosines Cert.LossIdeal.Gen.facts _ _ := fun m g hp =>
  (θ_run Cert.LossIdeal.defs _ _).mono (fun r h c =>
    ⟨(h c).2.1, (h c).2.2.1, (h c).2.2.2, by
      rw [(h c).1]
      exact Cert.LossHolds.result_near m c (hp c).1 (hp c).2.1 (hp c).2.2⟩) (Cert.LossIdeal.Value.run_blocks m g)

/-- Every claim of the certificate. -/
theorem claim : Cert.Claim :=
  ⟨Cert.Kernel.Gen.facts, Cert.KernelIdeal.Gen.facts, Cert.ReferenceIdeal.Gen.facts, Cert.Loss.Gen.facts, Cert.LossIdeal.Gen.facts, Cert.Pre_rows_of_eight.Hand.facts,
    Cert.LossPre.facts, Cert.LossPost.facts,
    frame_kernel,
    frame_kernelIdeal,
    fun m g _ => frame_kernelIdeal m g trivial,
    frame_reference,
    fun m g _ => frame_reference m g trivial,
    fun m g _ => Cert.Loss.Gen.frame m g,
    fun m g _ => Cert.LossIdeal.Gen.frame m g,
    fun m g _ => Cert.LossIdeal.Gen.frame m g,
    trivial,
    haveI := Cert.Pre_rows_of_eight.Hand.facts
    agree,
    trivial,
    haveI := Cert.LossPre.facts
    haveI := Cert.LossPost.facts
    near_loss⟩

end Cert.Proof

end
